-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_unit_cube [hPre_in_unit_cube : Cert.Pre_in_unit_cube.Facts] (m : (ℓ : Loc Cert.KernelIdeal.nD Cert.KernelIdeal.τ Cert.KernelIdeal.sig) → Buf (Elt Ideal) ℓ) : Prop :=
  ∀ c : Dev Cert.KernelIdeal.nD,
    (Cert.Pre_in_unit_cube.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_in_unit_cube.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_in_unit_cube.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_unit_cube [hPre_in_unit_cube : Cert.Pre_in_unit_cube.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_unit_cube.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_in_unit_cube.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_in_unit_cube.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_unit_cube [hKernelIdeal : Cert.KernelIdeal.Facts] [hPre_in_unit_cube : Cert.Pre_in_unit_cube.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_unit_cube m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_unit_cube [hReferenceIdeal : Cert.ReferenceIdeal.Facts] [hPre_in_unit_cube : Cert.Pre_in_unit_cube.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_unit_cube m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_in_unit_cube [hKernelIdeal : Cert.KernelIdeal.Facts] [hReferenceIdeal : Cert.ReferenceIdeal.Facts] [hPre_in_unit_cube : Cert.Pre_in_unit_cube.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_unit_cube m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_v159) = v1 c
          ∧ r.2.mem ((c.tc : Thread Cert.ReferenceIdeal.nD Cert.ReferenceIdeal.τ).loc Cert.ReferenceIdeal.main_v152) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_unit_cube : Cert.Pre_in_unit_cube.Facts),
    quiescent_Kernel (hKernel := hKernel)
    ∧ quiescent_KernelIdeal (hKernelIdeal := hKernelIdeal)
    ∧ quiescent_KernelIdeal_pre_in_unit_cube (hKernelIdeal := hKernelIdeal) (hPre_in_unit_cube := hPre_in_unit_cube)
    ∧ quiescent_ReferenceIdeal (hReferenceIdeal := hReferenceIdeal)
    ∧ quiescent_ReferenceIdeal_pre_in_unit_cube (hReferenceIdeal := hReferenceIdeal) (hPre_in_unit_cube := hPre_in_unit_cube)
    ∧ preserves_Kernel_KernelIdeal
    ∧ algebraic_KernelIdeal_ReferenceIdeal_pre_in_unit_cube (hKernelIdeal := hKernelIdeal) (hReferenceIdeal := hReferenceIdeal) (hPre_in_unit_cube := hPre_in_unit_cube)
-- ==== Pre_in_unit_cube.lean ====
abbrev S1x10000x3 : Shape := ⟨3, ![1, 10000, 3]⟩
abbrev S1x1280x3 : Shape := ⟨3, ![1, 1280, 3]⟩
abbrev S1x1280 : Shape := ⟨2, ![1, 1280]⟩
abbrev S1x1280x17 : Shape := ⟨3, ![1, 1280, 17]⟩
abbrev S1x1280x3x3 : Shape := ⟨4, ![1, 1280, 3, 3]⟩
abbrev S_ : Shape := ⟨0, ![]⟩

class Facts : Prop where
  bcast_S_S1x10000x3 : S_.BroadcastsInDim S1x10000x3 (![] : Fin 0 → Fin S1x10000x3.rank)
  bcast_S_S1x1280x3 : S_.BroadcastsInDim S1x1280x3 (![] : Fin 0 → Fin S1x1280x3.rank)
  bcast_S_S1x1280 : S_.BroadcastsInDim S1x1280 (![] : Fin 0 → Fin S1x1280.rank)

variable [Facts]

def fn {F : FTy → Type} [FloatOps F] (main_arg0 : FVec F S1x10000x3 .f32) (main_arg1 : FVec F S1x1280x3 .f32) (main_arg2 : FVec F S1x1280 .f32) (main_arg3 : FVec F S1x1280x17 .f32) (main_arg4 : FVec F S1x1280x3 .f32) (main_arg5 : FVec F S1x1280x3x3 .f32) : IVec S1x10000x3 1 × IVec S1x1280x3 1 × IVec S1x1280 1 :=
  let main_cst : FVec F S_ .f32 := constant S_ .f32 0x00000000#32
  let main_v0 : FVec F S1x10000x3 .f32 := broadcastInDim S1x10000x3 ![] bcast_S_S1x10000x3 main_cst
  let main_v1 : IVec S1x10000x3 1 := cmpf .oge main_arg0 main_v0
  let main_cst_0 : FVec F S_ .f32 := constant S_ .f32 0x3F800000#32
  let main_v2 : FVec F S1x10000x3 .f32 := broadcastInDim S1x10000x3 ![] bcast_S_S1x10000x3 main_cst_0
  let main_v3 : IVec S1x10000x3 1 := cmpf .ole main_arg0 main_v2
  let main_v4 : IVec S1x10000x3 1 := andi main_v1 main_v3
  let main_cst_1 : FVec F S_ .f32 := constant S_ .f32 0x00000000#32
  let main_v5 : FVec F S1x1280x3 .f32 := broadcastInDim S1x1280x3 ![] bcast_S_S1x1280x3 main_cst_1
  let main_v6 : IVec S1x1280x3 1 := cmpf .oge main_arg1 main_v5
  let main_cst_2 : FVec F S_ .f32 := constant S_ .f32 0x3F800000#32
  let main_v7 : FVec F S1x1280x3 .f32 := broadcastInDim S1x1280x3 ![] bcast_S_S1x1280x3 main_cst_2
  let main_v8 : IVec S1x1280x3 1 := cmpf .ole main_arg1 main_v7
  let main_v9 : IVec S1x1280x3 1 := andi main_v6 main_v8
  let main_cst_3 : FVec F S_ .f32 := constant S_ .f32 0x3F800000#32
  let main_v10 : FVec F S1x1280 .f32 := broadcastInDim S1x1280 ![] bcast_S_S1x1280 main_cst_3
  let main_v11 : IVec S1x1280 1 := cmpf .ole main_arg2 main_v10
  (main_v4, main_v9, main_v11)
-- ==== Kernel.lean ====
abbrev S1x10000x3 : Shape := ⟨3, ![1, 10000, 3]⟩
abbrev S1x1280x3 : Shape := ⟨3, ![1, 1280, 3]⟩
abbrev S1x1280 : Shape := ⟨2, ![1, 1280]⟩
abbrev S1x1280x17 : Shape := ⟨3, ![1, 1280, 17]⟩
abbrev S1x1280x3x3 : Shape := ⟨4, ![1, 1280, 3, 3]⟩
abbrev S6 : Shape := ⟨1, ![6]⟩
abbrev S10000x3 : Shape := ⟨2, ![10000, 3]⟩
abbrev S1280x3 : Shape := ⟨2, ![1280, 3]⟩
abbrev S1280 : Shape := ⟨1, ![1280]⟩
abbrev S1280x17 : Shape := ⟨2, ![1280, 17]⟩
abbrev S1280x3x3 : Shape := ⟨3, ![1280, 3, 3]⟩
abbrev S1280x9 : Shape := ⟨2, ![1280, 9]⟩
abbrev S_ : Shape := ⟨0, ![]⟩
abbrev S6x1 : Shape := ⟨2, ![6, 1]⟩
abbrev S1280x6 : Shape := ⟨2, ![1280, 6]⟩
abbrev S1280x1 : Shape := ⟨2, ![1280, 1]⟩
abbrev S1280x13 : Shape := ⟨2, ![1280, 13]⟩
abbrev S13x1280 : Shape := ⟨2, ![13, 1280]⟩
abbrev S1280x18 : Shape := ⟨2, ![1280, 18]⟩
abbrev S10000x19 : Shape := ⟨2, ![10000, 19]⟩
abbrev S2000x1 : Shape := ⟨2, ![2000, 1]⟩
abbrev S2000x1280 : Shape := ⟨2, ![2000, 1280]⟩
abbrev S2000x128 : Shape := ⟨2, ![2000, 128]⟩
abbrev S2000 : Shape := ⟨1, ![2000]⟩
abbrev S2000x18 : Shape := ⟨2, ![2000, 18]⟩
abbrev S2000x17 : Shape := ⟨2, ![2000, 17]⟩
abbrev S10000x17 : Shape := ⟨2, ![10000, 17]⟩
abbrev S10000x1 : Shape := ⟨2, ![10000, 1]⟩
abbrev S10000 : Shape := ⟨1, ![10000]⟩

abbrev nBuf : Space → Nat
  | .hbm => 35
  | .vmem => 4
  | .smem => 0
  | _ => 0

abbrev bufTy : (tb : Table) → Fin (tcTables nBuf tb) → BufTy
  | .hbm, ⟨0, _⟩ => ⟨S1x10000x3, .f32⟩
  | .hbm, ⟨1, _⟩ => ⟨S1x1280x3, .f32⟩
  | .hbm, ⟨2, _⟩ => ⟨S1x1280, .f32⟩
  | .hbm, ⟨3, _⟩ => ⟨S1x1280x17, .f32⟩
  | .hbm, ⟨4, _⟩ => ⟨S1x1280x3, .f32⟩
  | .hbm, ⟨5, _⟩ => ⟨S1x1280x3x3, .f32⟩
  | .hbm, ⟨6, _⟩ => ⟨S6, .i32⟩
  | .hbm, ⟨7, _⟩ => ⟨S10000x3, .f32⟩
  | .hbm, ⟨8, _⟩ => ⟨S1280x3, .f32⟩
  | .hbm, ⟨9, _⟩ => ⟨S1280, .f32⟩
  | .hbm, ⟨10, _⟩ => ⟨S1280x17, .f32⟩
  | .hbm, ⟨11, _⟩ => ⟨S1280x3, .f32⟩
  | .hbm, ⟨12, _⟩ => ⟨S1280x3x3, .f32⟩
  | .hbm, ⟨13, _⟩ => ⟨S1280x9, .f32⟩
  | .hbm, ⟨14, _⟩ => ⟨S_, .i32⟩
  | .hbm, ⟨15, _⟩ => ⟨S6, .i32⟩
  | .hbm, ⟨16, _⟩ => ⟨S6, .i1⟩
  | .hbm, ⟨17, _⟩ => ⟨S_, .i32⟩
  | .hbm, ⟨18, _⟩ => ⟨S6, .i32⟩
  | .hbm, ⟨19, _⟩ => ⟨S6, .i32⟩
  | .hbm, ⟨20, _⟩ => ⟨S6, .i32⟩
  | .hbm, ⟨21, _⟩ => ⟨S6x1, .i32⟩
  | .hbm, ⟨22, _⟩ => ⟨S1280x6, .f32⟩
  | .hbm, ⟨23, _⟩ => ⟨S1280x1, .f32⟩
  | .hbm, ⟨24, _⟩ => ⟨S1280x13, .f32⟩
  | .hbm, ⟨25, _⟩ => ⟨S13x1280, .f32⟩
  | .hbm, ⟨26, _⟩ => ⟨S_, .f32⟩
  | .hbm, ⟨27, _⟩ => ⟨S1280x1, .f32⟩
  | .hbm, ⟨28, _⟩ => ⟨S1280x18, .f32⟩
  | .hbm, ⟨29, _⟩ => ⟨S10000x19, .f32⟩
  | .hbm, ⟨30, _⟩ => ⟨S10000x17, .f32⟩
  | .hbm, ⟨31, _⟩ => ⟨S10000x1, .f32⟩
  | .hbm, ⟨32, _⟩ => ⟨S10000, .f32⟩
  | .hbm, ⟨33, _⟩ => ⟨S10000x1, .f32⟩
  | .hbm, ⟨34, _⟩ => ⟨S10000, .f32⟩
  | .local _ .vmem, ⟨0, _⟩ => ⟨S10000x3, .f32⟩
  | .local _ .vmem, ⟨1, _⟩ => ⟨S13x1280, .f32⟩
  | .local _ .vmem, ⟨2, _⟩ => ⟨S1280x18, .f32⟩
  | .local _ .vmem, ⟨3, _⟩ => ⟨S10000x19, .f32⟩
  | _, _ => ⟨S1x10000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c5_i32 : BitVec 32 := 5#32
  let v93 : BitVec 32 := Scalar.addi c0_i32 c5_i32
  let c1_i32_32 : BitVec 32 := 1#32
  ⟨c0_i32, v93, c1_i32_32⟩
def k0_off1 (k0_t1 : Fin k0_t1_loop.trips) : Fin 2 → Nat :=
  let c0_i32 : BitVec 32 := 0#32
  let c1_i32_32 : BitVec 32 := 1#32
  let arg5 : BitVec 32 := Scf.iv c0_i32 c1_i32_32 k0_t1
  let c2000_i32 : BitVec 32 := 2000#32
  let v94 : BitVec 32 := Scalar.muli arg5 c2000_i32
  let v95 : Index := Scalar.indexCast v94
  let c0_34 : Index := 0#32
  ![v95.toNat, 0]
def k0_off2 (k0_t1 : Fin k0_t1_loop.trips) : Fin 2 → Nat :=
  let c0_i32 : BitVec 32 := 0#32
  let c1_i32_32 : BitVec 32 := 1#32
  let arg5 : BitVec 32 := Scf.iv c0_i32 c1_i32_32 k0_t1
  let c2000_i32 : BitVec 32 := 2000#32
  let v94 : BitVec 32 := Scalar.muli arg5 c2000_i32
  let v98 : Index := Scalar.indexCast v94
  let c1_35 : Index := 1#32
  ![v98.toNat, 1]
def k0_off3 (k0_t1 : Fin k0_t1_loop.trips) : Fin 2 → Nat :=
  let c0_i32 : BitVec 32 := 0#32
  let c1_i32_32 : BitVec 32 := 1#32
  let arg5 : BitVec 32 := Scf.iv c0_i32 c1_i32_32 k0_t1
  let c2000_i32 : BitVec 32 := 2000#32
  let v94 : BitVec 32 := Scalar.muli arg5 c2000_i32
  let v101 : Index := Scalar.indexCast v94
  let c2_36 : Index := 2#32
  ![v101.toNat, 2]
def k0_off4 (k0_t1 : Fin k0_t1_loop.trips) : Fin 2 → Nat :=
  let c0_i32 : BitVec 32 := 0#32
  let c1_i32_32 : BitVec 32 := 1#32
  let arg5 : BitVec 32 := Scf.iv c0_i32 c1_i32_32 k0_t1
  let c2000_i32 : BitVec 32 := 2000#32
  let v94 : BitVec 32 := Scalar.muli arg5 c2000_i32
  let v210 : Index := Scalar.indexCast v94
  let c0_57 : Index := 0#32
  ![v210.toNat, 0]
def k0_off5 (k0_t1 : Fin k0_t1_loop.trips) : Fin 2 → Nat :=
  let c0_i32 : BitVec 32 := 0#32
  let c1_i32_32 : BitVec 32 := 1#32
  let arg5 : BitVec 32 := Scf.iv c0_i32 c1_i32_32 k0_t1
  let c2000_i32 : BitVec 32 := 2000#32
  let v94 : BitVec 32 := Scalar.muli arg5 c2000_i32
  let v212 : Index := Scalar.indexCast v94
  let c17 : Index := 17#32
  ![v212.toNat, 17]
def k0_off6 (k0_t1 : Fin k0_t1_loop.trips) : Fin 2 → Nat :=
  let c0_i32 : BitVec 32 := 0#32
  let c1_i32_32 : BitVec 32 := 1#32
  let arg5 : BitVec 32 := Scf.iv c0_i32 c1_i32_32 k0_t1
  let c2000_i32 : BitVec 32 := 2000#32
  let v94 : BitVec 32 := Scalar.muli arg5 c2000_i32
  let v215 : Index := Scalar.indexCast v94
  let c18 : Index := 18#32
  ![v215.toNat, 18]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S13x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280x18 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10000x19 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1x10000x3 : Shape := ⟨3, ![1, 10000, 3]⟩
abbrev S1x1280x3 : Shape := ⟨3, ![1, 1280, 3]⟩
abbrev S1x1280 : Shape := ⟨2, ![1, 1280]⟩
abbrev S1x1280x17 : Shape := ⟨3, ![1, 1280, 17]⟩
abbrev S1x1280x3x3 : Shape := ⟨4, ![1, 1280, 3, 3]⟩
abbrev S3 : Shape := ⟨1, ![3]⟩
abbrev S6 : Shape := ⟨1, ![6]⟩
abbrev S1x3 : Shape := ⟨2, ![1, 3]⟩
abbrev S10000x3 : Shape := ⟨2, ![10000, 3]⟩
abbrev S1280x3 : Shape := ⟨2, ![1280, 3]⟩
abbrev S1280 : Shape := ⟨1, ![1280]⟩
abbrev S1280x17 : Shape := ⟨2, ![1280, 17]⟩
abbrev S1280x3x3 : Shape := ⟨3, ![1280, 3, 3]⟩
abbrev S_ : Shape := ⟨0, ![]⟩
abbrev S1280x9 : Shape := ⟨2, ![1280, 9]⟩
abbrev S6x1 : Shape := ⟨2, ![6, 1]⟩
abbrev S1280x6 : Shape := ⟨2, ![1280, 6]⟩
abbrev S10000x1 : Shape := ⟨2, ![10000, 1]⟩
abbrev S10000 : Shape := ⟨1, ![10000]⟩
abbrev S1280x1 : Shape := ⟨2, ![1280, 1]⟩
abbrev S10000x1280 : Shape := ⟨2, ![10000, 1280]⟩
abbrev S10000x17 : Shape := ⟨2, ![10000, 17]⟩

abbrev nBuf : Space → Nat
  | .hbm => 220
  | .vmem => 0
  | .smem => 0
  | _ => 0

abbrev hbmTy0_0 (i : Nat) : BufTy := match i % 128 with
  | 0 => ⟨S1x10000x3, .f32⟩
  | 1 => ⟨S1x1280x3, .f32⟩
  | 2 => ⟨S1x1280, .f32⟩
  | 3 => ⟨S1x1280x17, .f32⟩
  | 4 => ⟨S1x1280x3, .f32⟩
  | 5 => ⟨S1x1280x3x3, .f32⟩
  | 6 => ⟨S3, .f32⟩
  | 7 => ⟨S6, .i32⟩
  | 8 => ⟨S1x3, .f32⟩
  | 9 => ⟨S10000x3, .f32⟩
  | 10 => ⟨S1280x3, .f32⟩
  | 11 => ⟨S1280, .f32⟩
  | 12 => ⟨S1280x17, .f32⟩
  | 13 => ⟨S1280x3, .f32⟩
  | 14 => ⟨S1280x3x3, .f32⟩
  | 15 => ⟨S10000x3, .f32⟩
  | 16 => ⟨S10000x3, .f32⟩
  | 17 => ⟨S_, .f32⟩
  | 18 => ⟨S10000x3, .f32⟩
  | 19 => ⟨S10000x3, .f32⟩
  | 20 => ⟨S10000x3, .i32⟩
  | 21 => ⟨S1280x3, .f32⟩
  | 22 => ⟨S1280x3, .f32⟩
  | 23 => ⟨S_, .f32⟩
  | 24 => ⟨S1280x3, .f32⟩
  | 25 => ⟨S1280x3, .f32⟩
  | 26 => ⟨S1280x3, .i32⟩
  | 27 => ⟨S_, .f32⟩
  | 28 => ⟨S1280, .f32⟩
  | 29 => ⟨S_, .f32⟩
  | 30 => ⟨S1280, .f32⟩
  | 31 => ⟨S1280, .f32⟩
  | 32 => ⟨S_, .f32⟩
  | 33 => ⟨S1280, .f32⟩
  | 34 => ⟨S1280, .f32⟩
  | 35 => ⟨S1280, .f32⟩
  | 36 => ⟨S1280, .i32⟩
  | 37 => ⟨S_, .i32⟩
  | 38 => ⟨S_, .i32⟩
  | 39 => ⟨S_, .i32⟩
  | 40 => ⟨S1280, .i32⟩
  | 41 => ⟨S1280, .i32⟩
  | 42 => ⟨S_, .i32⟩
  | 43 => ⟨S1280, .i32⟩
  | 44 => ⟨S1280, .i32⟩
  | 45 => ⟨S1280x9, .f32⟩
  | 46 => ⟨S_, .i32⟩
  | 47 => ⟨S6, .i32⟩
  | 48 => ⟨S6, .i1⟩
  | 49 => ⟨S_, .i32⟩
  | 50 => ⟨S6, .i32⟩
  | 51 => ⟨S6, .i32⟩
  | 52 => ⟨S6, .i32⟩
  | 53 => ⟨S6x1, .i32⟩
  | 54 => ⟨S1280x6, .f32⟩
  | 55 => ⟨S10000x1, .f32⟩
  | 56 => ⟨S10000, .f32⟩
  | 57 => ⟨S10000x1, .f32⟩
  | 58 => ⟨S1280x1, .f32⟩
  | 59 => ⟨S1280, .f32⟩
  | 60 => ⟨S1x1280, .f32⟩
  | 61 => ⟨S10000x1280, .f32⟩
  | 62 => ⟨S10000x1280, .f32⟩
  | 63 => ⟨S10000x1280, .f32⟩
  | 64 => ⟨S10000x1, .f32⟩
  | 65 => ⟨S10000, .f32⟩
  | 66 => ⟨S10000x1, .f32⟩
  | 67 => ⟨S1280x1, .f32⟩
  | 68 => ⟨S1280, .f32⟩
  | 69 => ⟨S1x1280, .f32⟩
  | 70 => ⟨S10000x1280, .f32⟩
  | 71 => ⟨S10000x1280, .f32⟩
  | 72 => ⟨S10000x1280, .f32⟩
  | 73 => ⟨S10000x1, .f32⟩
  | 74 => ⟨S10000, .f32⟩
  | 75 => ⟨S10000x1, .f32⟩
  | 76 => ⟨S1280x1, .f32⟩
  | 77 => ⟨S1280, .f32⟩
  | 78 => ⟨S1x1280, .f32⟩
  | 79 => ⟨S10000x1280, .f32⟩
  | 80 => ⟨S10000x1280, .f32⟩
  | 81 => ⟨S10000x1280, .f32⟩
  | 82 => ⟨S1280x1, .f32⟩
  | 83 => ⟨S1280, .f32⟩
  | 84 => ⟨S1x1280, .f32⟩
  | 85 => ⟨S10000x1280, .f32⟩
  | 86 => ⟨S10000x1280, .f32⟩
  | 87 => ⟨S10000x1280, .f32⟩
  | 88 => ⟨S1280x1, .f32⟩
  | 89 => ⟨S1280, .f32⟩
  | 90 => ⟨S1x1280, .f32⟩
  | 91 => ⟨S10000x1280, .f32⟩
  | 92 => ⟨S10000x1280, .f32⟩
  | 93 => ⟨S10000x1280, .f32⟩
  | 94 => ⟨S10000x1280, .f32⟩
  | 95 => ⟨S1280x1, .f32⟩
  | 96 => ⟨S1280, .f32⟩
  | 97 => ⟨S1x1280, .f32⟩
  | 98 => ⟨S10000x1280, .f32⟩
  | 99 => ⟨S10000x1280, .f32⟩
  | 100 => ⟨S10000x1280, .f32⟩
  | 101 => ⟨S10000x1280, .f32⟩
  | 102 => ⟨S_, .f32⟩
  | 103 => ⟨S10000x1280, .f32⟩
  | 104 => ⟨S10000x1280, .f32⟩
  | 105 => ⟨S1280x1, .f32⟩
  | 106 => ⟨S1280, .f32⟩
  | 107 => ⟨S1x1280, .f32⟩
  | 108 => ⟨S10000x1280, .f32⟩
  | 109 => ⟨S10000x1280, .f32⟩
  | 110 => ⟨S10000x1280, .f32⟩
  | 111 => ⟨S10000x1280, .f32⟩
  | 112 => ⟨S1280x1, .f32⟩
  | 113 => ⟨S1280, .f32⟩
  | 114 => ⟨S1x1280, .f32⟩
  | 115 => ⟨S10000x1280, .f32⟩
  | 116 => ⟨S10000x1280, .f32⟩
  | 117 => ⟨S10000x1280, .f32⟩
  | 118 => ⟨S10000x1280, .f32⟩
  | 119 => ⟨S1280x1, .f32⟩
  | 120 => ⟨S1280, .f32⟩
  | 121 => ⟨S1x1280, .f32⟩
  | 122 => ⟨S10000x1280, .f32⟩
  | 123 => ⟨S10000x1280, .f32⟩
  | 124 => ⟨S10000x1280, .f32⟩
  | 125 => ⟨S10000x1280, .f32⟩
  | 126 => ⟨S1x1280, .i32⟩
  | 127 => ⟨S10000x1, .i32⟩
  | _ => ⟨S1x10000x3, .f32⟩

abbrev hbmTy0_1 (i : Nat) : BufTy := match i % 128 with
  | 0 => ⟨S10000, .i32⟩
  | 1 => ⟨S10000x1, .i32⟩
  | 2 => ⟨S1280x1, .i32⟩
  | 3 => ⟨S1280, .i32⟩
  | 4 => ⟨S1x1280, .i32⟩
  | 5 => ⟨S10000x1280, .i32⟩
  | 6 => ⟨S10000x1280, .i32⟩
  | 7 => ⟨S10000x1280, .i32⟩
  | 8 => ⟨S10000x1280, .i32⟩
  | 9 => ⟨S10000x1280, .i32⟩
  | 10 => ⟨S10000x1280, .i1⟩
  | 11 => ⟨S10000x1, .i32⟩
  | 12 => ⟨S10000, .i32⟩
  | 13 => ⟨S10000x1, .i32⟩
  | 14 => ⟨S1280x1, .i32⟩
  | 15 => ⟨S1280, .i32⟩
  | 16 => ⟨S1x1280, .i32⟩
  | 17 => ⟨S10000x1280, .i32⟩
  | 18 => ⟨S10000x1280, .i32⟩
  | 19 => ⟨S10000x1280, .i32⟩
  | 20 => ⟨S10000x1280, .i32⟩
  | 21 => ⟨S10000x1280, .i32⟩
  | 22 => ⟨S10000x1280, .i1⟩
  | 23 => ⟨S10000x1280, .i1⟩
  | 24 => ⟨S10000x1, .i32⟩
  | 25 => ⟨S10000, .i32⟩
  | 26 => ⟨S10000x1, .i32⟩
  | 27 => ⟨S1280x1, .i32⟩
  | 28 => ⟨S1280, .i32⟩
  | 29 => ⟨S1x1280, .i32⟩
  | 30 => ⟨S10000x1280, .i32⟩
  | 31 => ⟨S10000x1280, .i32⟩
  | 32 => ⟨S10000x1280, .i32⟩
  | 33 => ⟨S10000x1280, .i32⟩
  | 34 => ⟨S10000x1280, .i32⟩
  | 35 => ⟨S10000x1280, .i1⟩
  | 36 => ⟨S10000x1280, .i1⟩
  | 37 => ⟨S_, .f32⟩
  | 38 => ⟨S10000x1280, .f32⟩
  | 39 => ⟨S10000x1280, .i1⟩
  | 40 => ⟨S10000x1280, .i1⟩
  | 41 => ⟨S_, .f32⟩
  | 42 => ⟨S10000x1280, .f32⟩
  | 43 => ⟨S10000x1280, .f32⟩
  | 44 => ⟨S10000x1280, .f32⟩
  | 45 => ⟨S1x1280, .f32⟩
  | 46 => ⟨S10000x1280, .f32⟩
  | 47 => ⟨S10000x1280, .f32⟩
  | 48 => ⟨S_, .f32⟩
  | 49 => ⟨S_, .f32⟩
  | 50 => ⟨S10000x1280, .f32⟩
  | 51 => ⟨S10000x1280, .f32⟩
  | 52 => ⟨S_, .f32⟩
  | 53 => ⟨S10000, .f32⟩
  | 54 => ⟨S10000x17, .f32⟩
  | 55 => ⟨S_, .f32⟩
  | 56 => ⟨S10000x1280, .f32⟩
  | 57 => ⟨S10000x1280, .f32⟩
  | 58 => ⟨S_, .f32⟩
  | 59 => ⟨S10000, .f32⟩
  | 60 => ⟨S_, .i32⟩
  | 61 => ⟨S_, .i32⟩
  | 62 => ⟨S10000x1280, .f32⟩
  | 63 => ⟨S_, .i32⟩
  | 64 => ⟨S_, .i32⟩
  | 65 => ⟨S10000, .f32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S_, .i32⟩
  | 84 => ⟨S10000x1, .f32⟩
  | 85 => ⟨S10000, .f32⟩
  | 86 => ⟨S10000, .f32⟩
  | 87 => ⟨S_, .i32⟩
  | 88 => ⟨S_, .i32⟩
  | 89 => ⟨S_, .f32⟩
  | 90 => ⟨S10000, .f32⟩
  | 91 => ⟨S10000, .f32⟩
  | _ => ⟨S1x10000x3, .f32⟩

abbrev hbmTy (i : Nat) : BufTy := match i / 128 with
  | 0 => hbmTy0_0 i
  | 1 => hbmTy0_1 i
  | _ => ⟨S1x10000x3, .f32⟩

abbrev bufTy : (tb : Table) → Fin (tcTables nBuf tb) → BufTy
  | .hbm, ⟨i, _⟩ => hbmTy i
  | _, _ => ⟨S1x10000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_c_6 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v24 : Ref sig .tc := ⟨.hbm, 44, rfl⟩
abbrev main_v25 : Ref sig .tc := ⟨.hbm, 45, rfl⟩
abbrev main_c_7 : Ref sig .tc := ⟨.hbm, 46, rfl⟩
abbrev main_v26 : Ref sig .tc := ⟨.hbm, 47, rfl⟩
abbrev main_v27 : Ref sig .tc := ⟨.hbm, 48, rfl⟩
abbrev main_c_8 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_9 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_cst_10 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_cst_11 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_cst_12 : Ref sig .tc := ⟨.hbm, 176, rfl⟩
abbrev main_call1_v0 : Ref sig .tc := ⟨.hbm, 177, rfl⟩
abbrev main_call1_v1 : Ref sig .tc := ⟨.hbm, 178, rfl⟩
abbrev main_v151 : Ref sig .tc := ⟨.hbm, 179, rfl⟩
abbrev main_cst_13 : Ref sig .tc := ⟨.hbm, 180, rfl⟩
abbrev main_v152 : Ref sig .tc := ⟨.hbm, 181, rfl⟩
abbrev main_v153 : Ref sig .tc := ⟨.hbm, 182, rfl⟩
abbrev main_cst_14 : Ref sig .tc := ⟨.hbm, 183, rfl⟩
abbrev main_v154 : Ref sig .tc := ⟨.hbm, 184, rfl⟩
abbrev main_v155 : Ref sig .tc := ⟨.hbm, 185, rfl⟩
abbrev main_cst_15 : Ref sig .tc := ⟨.hbm, 186, rfl⟩
abbrev main_v156 : Ref sig .tc := ⟨.hbm, 187, rfl⟩
abbrev main_c_16 : Ref sig .tc := ⟨.hbm, 188, rfl⟩
abbrev main_c_17 : Ref sig .tc := ⟨.hbm, 189, rfl⟩
abbrev main_v157_0 : Ref sig .tc := ⟨.hbm, 190, rfl⟩
abbrev main_v157_1 : Ref sig .tc := ⟨.hbm, 191, rfl⟩
abbrev main_v157_2 : Ref sig .tc := ⟨.hbm, 192, rfl⟩
abbrev main_v157_3 : Ref sig .tc := ⟨.hbm, 193, rfl⟩
abbrev main_while0c_c_22 : Ref sig .tc := ⟨.hbm, 194, rfl⟩
abbrev main_while0c_v160 : Ref sig .tc := ⟨.hbm, 195, rfl⟩
abbrev main_while0b_c_22 : Ref sig .tc := ⟨.hbm, 196, rfl⟩
abbrev main_while0b_v160 : Ref sig .tc := ⟨.hbm, 197, rfl⟩
abbrev main_while0b_v161 : Ref sig .tc := ⟨.hbm, 198, rfl⟩
abbrev main_while0b_c_23 : Ref sig .tc := ⟨.hbm, 199, rfl⟩
abbrev main_while0b_c_24 : Ref sig .tc := ⟨.hbm, 200, rfl⟩
abbrev main_while0b_v162 : Ref sig .tc := ⟨.hbm, 201, rfl⟩
abbrev main_while0b_c_25 : Ref sig .tc := ⟨.hbm, 202, rfl⟩
abbrev main_while0b_c_26 : Ref sig .tc := ⟨.hbm, 203, rfl⟩
abbrev main_while0b_v163 : Ref sig .tc := ⟨.hbm, 204, rfl⟩
abbrev main_while0b_c_27 : Ref sig .tc := ⟨.hbm, 205, rfl⟩
abbrev main_while0b_v164 : Ref sig .tc := ⟨.hbm, 206, rfl⟩
abbrev main_while0b_c_28 : Ref sig .tc := ⟨.hbm, 207, rfl⟩
abbrev main_while0b_v165 : Ref sig .tc := ⟨.hbm, 208, rfl⟩
abbrev main_while0b_c_29 : Ref sig .tc := ⟨.hbm, 209, rfl⟩
abbrev main_while0b_v166 : Ref sig .tc := ⟨.hbm, 210, rfl⟩
abbrev main_while0b_v167 : Ref sig .tc := ⟨.hbm, 211, rfl⟩
abbrev main_while0b_v168 : Ref sig .tc := ⟨.hbm, 212, rfl⟩
abbrev main_while0b_v169 : Ref sig .tc := ⟨.hbm, 213, rfl⟩
abbrev main_while0b_v170 : Ref sig .tc := ⟨.hbm, 214, rfl⟩
abbrev main_while0b_c_30 : Ref sig .tc := ⟨.hbm, 215, rfl⟩
abbrev main_while0b_v171 : Ref sig .tc := ⟨.hbm, 216, rfl⟩
abbrev main_cst_18 : Ref sig .tc := ⟨.hbm, 217, rfl⟩
abbrev main_v158 : Ref sig .tc := ⟨.hbm, 218, rfl⟩
abbrev main_v159 : Ref sig .tc := ⟨.hbm, 219, rfl⟩

abbrev nD : Nat := 1
abbrev τ : Topo := Topo.v7x

variable {F : FTy → Type} [FloatOps F]

abbrev main_while0_count : Scf.Loop 32 := ⟨0#32, 1280#32, 1#32⟩
-- ==== Proof.RefFrame.lean ====
/-
  The reference's run: what its loop and the operations after it leave untouched, and that its argument arrays end
  as they started.
-/
module

public import proofs.«01_k».proof.Proof.Gen.ReferenceIdeal.Run
public import Idealize.ShloMosaic.Lib.Quiescent

@[expose] public section

set_option maxRecDepth 16384

noncomputable section

namespace Cert.ReferenceIdeal.Value

open Idealize.ShloMosaic Idealize.ShloMosaic.TcCoe Idealize.SL.Sem
open Idealize.ShloMosaic.StableHlo
open Cert.ReferenceIdeal.Gen

variable {F : FTy → Type} [FloatOps F]
variable (m : (ℓ : Loc nD τ sig) → Buf (Elt F) ℓ) (ρ : Dev nD → PrngReg)

/-- A buffer written neither by the loop's condition nor by its body holds, before every trip, what it held at the
    loop's entry. -/
theorem atK_keep (c : Dev nD) (r : Ref sig .tc) (hc : r ∉ condOps_W) (hb : r ∉ while0Ops0_W) :
    ∀ k, atK m k c (Proc.devRef .tc r) = entryContents preI m c (Proc.devRef .tc r)
  | 0 => rfl
  | k + 1 => by
    rw [show atK m (k + 1) c = afterL bodyI (after condOps (atK m k c)) from rfl]
    exact (after_of_writes_sub while0Ops0 _ while0Ops0_writes hb).trans
      ((after_of_writes_sub condOps _ condOps_writes hc).trans (atK_keep c r hc hb k))

/-- A buffer that the operations after the loop do not write, nor the loop, ends as it stood at the loop's entry. -/
theorem final_keep (c : Dev nD) (r : Ref sig .tc) (hc : r ∉ condOps_W) (hb : r ∉ while0Ops0_W) (hp : r ∉ hostOps0_5_W) :
    finalContents condOps preI bodyI postI 1280 m c (Proc.devRef .tc r) = entryContents preI m c (Proc.devRef .tc r) := by
  exact (after_of_writes_sub hostOps0_5 _ hostOps0_5_writes hp).trans
    ((after_of_writes_sub condOps _ condOps_writes hc).trans (atK_keep m c r hc hb 1280))

/-- A buffer that no operation before the loop writes stands at the loop's entry as at the launch. -/
theorem entry_keep (c : Dev nD) (r : Ref sig .tc) (h0 : r ∉ hostOps0_W) (h1 : r ∉ hostOps0_1_W) (h2 : r ∉ hostOps0_2_W)
    (h3 : r ∉ hostOps0_3_W) (h4 : r ∉ hostOps0_4_W) :
    entryContents preI m c (Proc.devRef .tc r) = m ((c.tc : Thread nD τ).loc r) := by
  simp only [entryContents, afterL_cons, afterL_nil]
  rw [after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- What the reference's run ends with: the three results and the six arguments at the fold, every counter at zero. -/
theorem run_refs : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = finalContents condOps preI bodyI postI 1280 m c (Proc.devRef .tc b))
      ∧ r.2.sem = fun _ => 0) :=
  (θ_run _ _ _).mono (fun r h => ⟨h, sem_eq_zero_of_no_sems (by decide) r.2⟩) (run_fold m ρ)

/-- The reference's argument arrays end as they started. -/
theorem args_kept (c : Dev nD) (r : MemSt nD τ sig (Elt F))
    (h : ∀ (c : Dev nD) (b : Ref sig .tc), (Proc.devRef .tc b : DevRef τ sig).isScoped = false →
      r.mem ((c.tc : Thread nD τ).loc b) = finalContents condOps preI bodyI postI 1280 m c (Proc.devRef .tc b)) :
    r.mem ((c.tc : Thread nD τ).loc main_arg0) = m ((c.tc : Thread nD τ).loc main_arg0)
      ∧ r.mem ((c.tc : Thread nD τ).loc main_arg1) = m ((c.tc : Thread nD τ).loc main_arg1)
      ∧ r.mem ((c.tc : Thread nD τ).loc main_arg2) = m ((c.tc : Thread nD τ).loc main_arg2)
      ∧ r.mem ((c.tc : Thread nD τ).loc main_arg3) = m ((c.tc : Thread nD τ).loc main_arg3)
      ∧ r.mem ((c.tc : Thread nD τ).loc main_arg4) = m ((c.tc : Thread nD τ).loc main_arg4)
      ∧ r.mem ((c.tc : Thread nD τ).loc main_arg5) = m ((c.tc : Thread nD τ).loc main_arg5) := by
  have key : ∀ b : Ref sig .tc, (Proc.devRef .tc b : DevRef τ sig).isScoped = false →
      b ∉ condOps_W → b ∉ while0Ops0_W → b ∉ hostOps0_5_W → b ∉ hostOps0_W → b ∉ hostOps0_1_W → b ∉ hostOps0_2_W →
      b ∉ hostOps0_3_W → b ∉ hostOps0_4_W → r.mem ((c.tc : Thread nD τ).loc b) = m ((c.tc : Thread nD τ).loc b) :=
    fun b hs hc hb hp h0 h1 h2 h3 h4 => (h c b hs).trans
      ((final_keep m c b hc hb hp).trans (entry_keep m c b h0 h1 h2 h3 h4))
  refine ⟨?_, ?_, ?_, ?_, ?_, ?_⟩ <;>
    exact key _ (by decide) (by decide +kernel) (by decide +kernel) (by decide +kernel) (by decide +kernel)
      (by decide +kernel) (by decide +kernel) (by decide +kernel) (by decide +kernel)

/-- The reference runs, leaves its argument arrays as they were, and ends with every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun r h => ⟨fun c => args_kept m c r.2 h.1, h.2⟩) (run_refs m ρ)

end Cert.ReferenceIdeal.Value

end
-- ==== Proof.Range.lean ====
/-
  The range test. A point and a gaussian are in range when their grid cells differ by at most a radius in each of the
  three directions. The reference takes three absolute differences; the kernel packs the three cells into one word,
  ten bits apart, adds a guard bit to each field and reads the three answers off two subtractions. Both give the same
  bit when the cells are between 0 and 101 and the radius between 1 and 18.
-/
module

public import Idealize.ShloMosaic.PureOps.Ideal
public import Idealize.ShloMosaic.PureOps.Ideal.Laws

@[expose] public section

noncomputable section

namespace Cert.Value

open Idealize.ShloMosaic

/-- The guard bit of each of the three fields. -/
abbrev guards : BitVec 32 := 537395712#32

/-- Three cells packed ten bits apart, each raised by 64. -/
def pack (x y z : BitVec 32) : BitVec 32 :=
  IntOp.ori (IntOp.ori (IntOp.shli .vector (IntOp.addi x 64#32) 20#32) (IntOp.shli .vector (IntOp.addi y 64#32) 10#32))
    (IntOp.addi z 64#32)

/-- The kernel's range test: `(point + guards − lowest) & (highest + guards − point)` has all three guard bits. -/
def rangeKer (p1 p2 p3 m1 m2 m3 r : BitVec 32) : BitVec 1 :=
  IntOp.cmpi .eq
    (IntOp.andi
      (IntOp.andi
        (IntOp.subi (IntOp.addi (pack p1 p2 p3) guards) (pack (IntOp.subi m1 r) (IntOp.subi m2 r) (IntOp.subi m3 r)))
        (IntOp.subi (IntOp.addi (pack (IntOp.addi m1 r) (IntOp.addi m2 r) (IntOp.addi m3 r)) guards) (pack p1 p2 p3)))
      guards)
    guards

/-- The reference's range test: three absolute differences against the radius. -/
def rangeRef (p1 p2 p3 m1 m2 m3 r : BitVec 32) : BitVec 1 :=
  IntOp.andi
    (IntOp.andi (IntOp.cmpi .sle (IntOp.absi (IntOp.subi p1 m1)) r) (IntOp.cmpi .sle (IntOp.absi (IntOp.subi p2 m2)) r))
    (IntOp.cmpi .sle (IntOp.absi (IntOp.subi p3 m3)) r)

/-- A packed word read as a number: the three fields by place value. -/
theorem pack_toNat {x y z : BitVec 32} {a b c : ℕ} (hx : (IntOp.addi x 64#32).toNat = a) (hy : (IntOp.addi y 64#32).toNat = b)
    (hz : (IntOp.addi z 64#32).toNat = c) (ha : a < 512) (hb : b < 512) (hc : c < 512) :
    (pack x y z).toNat = a * 2 ^ 20 + b * 2 ^ 10 + c := by
  have e1 : a <<< 20 ||| b <<< 10 = a <<< 20 + b <<< 10 :=
    (Nat.shiftLeft_add_eq_or_of_lt (by rw [Nat.shiftLeft_eq]; omega) a).symm
  have e2 : (a * 2 ^ 10 + b) <<< 10 ||| c = (a * 2 ^ 10 + b) <<< 10 + c :=
    (Nat.shiftLeft_add_eq_or_of_lt (by omega) _).symm
  have e3 : a <<< 20 + b <<< 10 = (a * 2 ^ 10 + b) <<< 10 := by simp only [Nat.shiftLeft_eq]; ring
  have m1 : a <<< 20 % 2 ^ 32 = a <<< 20 := Nat.mod_eq_of_lt (by rw [Nat.shiftLeft_eq]; omega)
  have m2 : b <<< 10 % 2 ^ 32 = b <<< 10 := Nat.mod_eq_of_lt (by rw [Nat.shiftLeft_eq]; omega)
  unfold pack IntOp.ori IntOp.shli
  rw [if_pos (by decide), if_pos (by decide)]
  simp only [BitVec.toNat_or, BitVec.shiftLeft_eq', BitVec.toNat_shiftLeft, hx, hy, hz,
    show (20#32 : BitVec 32).toNat = 20 from rfl, show (10#32 : BitVec 32).toNat = 10 from rfl, m1, m2]
  rw [e1, e3, e2, Nat.shiftLeft_eq]
  ring

/-- A word masked by the guard bits equals them exactly when its three guard bits are set. -/
theorem and_guards_bits (x : BitVec 32) :
    x &&& guards = guards ↔ (x.getLsbD 9 = true ∧ x.getLsbD 19 = true ∧ x.getLsbD 29 = true) := by
  constructor
  · intro h
    have g : ∀ i, guards.getLsbD i = true → x.getLsbD i = true := fun i hi => by
      have := congrArg (fun y : BitVec 32 => y.getLsbD i) h
      simp only [BitVec.getLsbD_and, hi, Bool.and_true] at this
      exact this
    exact ⟨g 9 rfl, g 19 rfl, g 29 rfl⟩
  · rintro ⟨g1, g2, g3⟩
    apply BitVec.eq_of_getLsbD_eq
    intro i hi
    rw [BitVec.getLsbD_and]
    by_cases hg : guards.getLsbD i = true
    · have : ∀ i : Fin 32, guards.getLsbD i.val = true → i.val = 9 ∨ i.val = 19 ∨ i.val = 29 := by decide
      rw [hg, Bool.and_true]
      rcases this ⟨i, hi⟩ hg with h | h | h
      · rw [show i = 9 from h]; exact g1
      · rw [show i = 19 from h]; exact g2
      · rw [show i = 29 from h]; exact g3
    · rw [Bool.eq_false_iff.mpr hg, Bool.and_false]

/-- The three guard bits of a word read field by field: each is set exactly when its field is at least 512. -/
theorem guard_bits_of_fields {x : BitVec 32} {a b c : ℕ} (h : x.toNat = a * 2 ^ 20 + b * 2 ^ 10 + c) (ha : a < 1024)
    (hb : b < 1024) (hc : c < 1024) :
    (x.getLsbD 9 = true ∧ x.getLsbD 19 = true ∧ x.getLsbD 29 = true) ↔ (512 ≤ c ∧ 512 ≤ b ∧ 512 ≤ a) := by
  have hbit : ∀ i, x.getLsbD i = decide (x.toNat / 2 ^ i % 2 = 1) := fun i => by
    rw [BitVec.getLsbD, Nat.testBit_eq_decide_div_mod_eq]
  have e1 : (a * 2 ^ 20 + b * 2 ^ 10 + c) / 2 ^ 9 % 2 = 1 ↔ 512 ≤ c := by omega
  have e2 : (a * 2 ^ 20 + b * 2 ^ 10 + c) / 2 ^ 19 % 2 = 1 ↔ 512 ≤ b := by omega
  have e3 : (a * 2 ^ 20 + b * 2 ^ 10 + c) / 2 ^ 29 % 2 = 1 ↔ 512 ≤ a := by omega
  rw [hbit, hbit, hbit, decide_eq_true_iff, decide_eq_true_iff, decide_eq_true_iff, h, e1, e2, e3]

/-- One direction of the reference's test, on numbers. -/
theorem absi_sle_iff {p m r : BitVec 32} {a b k : ℕ} (hp : p.toNat = a) (hm : m.toNat = b) (hr : r.toNat = k)
    (ha : a < 512) (hb : b < 512) (hk : k < 512) :
    (IntOp.absi (IntOp.subi p m)).sle r = decide (a ≤ b + k ∧ b ≤ a + k) := by
  unfold IntOp.absi IntOp.subi
  rw [BitVec.sle_eq_decide]
  congr 1
  rw [BitVec.msb_eq_decide]
  have hs : (p - m).toNat = (2 ^ 32 - b + a) % 2 ^ 32 := by rw [BitVec.toNat_sub, hp, hm]
  have hri : r.toInt = k := by rw [BitVec.toInt_eq_toNat_cond, hr, if_pos (by omega)]
  rw [hri]
  by_cases hab : b ≤ a
  · have e : (p - m).toNat = a - b := by omega
    rw [if_neg (by rw [e]; simp; omega), BitVec.toInt_eq_toNat_cond, e, if_pos (by omega)]
    simp only [eq_iff_iff]; omega
  · have e : (p - m).toNat = 2 ^ 32 + a - b := by omega
    have e' : (-(p - m)).toNat = b - a := by rw [BitVec.toNat_neg, e]; omega
    rw [if_pos (by rw [e]; simp; omega), BitVec.toInt_eq_toNat_cond, e', if_pos (by omega)]
    simp only [eq_iff_iff]; omega

/-- Guard bits added to one packed word and another taken away: field by field, no field borrows from the next. -/
theorem guarded_sub_toNat {x y : BitVec 32} {a b c a' b' c' u v w : ℕ} (hx : x.toNat = a * 2 ^ 20 + b * 2 ^ 10 + c)
    (hy : y.toNat = a' * 2 ^ 20 + b' * 2 ^ 10 + c') (hu : a + 512 = a' + u) (hv : b + 512 = b' + v) (hw : c + 512 = c' + w)
    (u1 : u < 1024) (v1 : v < 1024) (w1 : w < 1024) (ha : a < 512) (hb : b < 512) (hc : c < 512) :
    (IntOp.subi (IntOp.addi x guards) y).toNat = u * 2 ^ 20 + v * 2 ^ 10 + w := by
  have l : u * 2 ^ 20 + v * 2 ^ 10 + w < 2 ^ 30 := by omega
  have lx : x.toNat < 2 ^ 29 := by omega
  have ly : y.toNat < 2 ^ 31 := by omega
  have e : x.toNat + 537395712 = y.toNat + (u * 2 ^ 20 + v * 2 ^ 10 + w) := by omega
  generalize u * 2 ^ 20 + v * 2 ^ 10 + w = d at l e
  have hd : (BitVec.ofNat 32 d).toNat = d := by rw [BitVec.toNat_ofNat]; exact Nat.mod_eq_of_lt (by omega)
  have h : x + guards = y + BitVec.ofNat 32 d := by
    apply BitVec.eq_of_toNat_eq
    rw [BitVec.toNat_add, BitVec.toNat_add, hd, show (guards : BitVec 32).toNat = 537395712 from rfl, e]
  unfold IntOp.subi IntOp.addi
  rw [h, BitVec.add_comm, BitVec.add_sub_cancel, hd]

/-- The guard bits of both subtractions, on numbers: the cells are within the radius in all three directions. -/
theorem guards_iff_near {p1 p2 p3 m1 m2 m3 r : ℕ} (h1 : p1 ≤ 101) (h2 : p2 ≤ 101) (h3 : p3 ≤ 101) (g1 : m1 ≤ 101)
    (g2 : m2 ≤ 101) (g3 : m3 ≤ 101) (r2 : r ≤ 18) {wa wb : BitVec 32}
    (A : wa.toNat = (p1 + r + 512 - m1) * 2 ^ 20 + (p2 + r + 512 - m2) * 2 ^ 10 + (p3 + r + 512 - m3))
    (B : wb.toNat = (m1 + r + 512 - p1) * 2 ^ 20 + (m2 + r + 512 - p2) * 2 ^ 10 + (m3 + r + 512 - p3)) :
    (wa &&& wb) &&& guards = guards ↔
      ((p1 ≤ m1 + r ∧ m1 ≤ p1 + r) ∧ (p2 ≤ m2 + r ∧ m2 ≤ p2 + r)) ∧ (p3 ≤ m3 + r ∧ m3 ≤ p3 + r) := by
  have hA := guard_bits_of_fields A (by omega) (by omega) (by omega)
  have hB := guard_bits_of_fields B (by omega) (by omega) (by omega)
  have i1 : 512 ≤ p1 + r + 512 - m1 ↔ m1 ≤ p1 + r := by omega
  have i2 : 512 ≤ p2 + r + 512 - m2 ↔ m2 ≤ p2 + r := by omega
  have i3 : 512 ≤ p3 + r + 512 - m3 ↔ m3 ≤ p3 + r := by omega
  have j1 : 512 ≤ m1 + r + 512 - p1 ↔ p1 ≤ m1 + r := by omega
  have j2 : 512 ≤ m2 + r + 512 - p2 ↔ p2 ≤ m2 + r := by omega
  have j3 : 512 ≤ m3 + r + 512 - p3 ↔ p3 ≤ m3 + r := by omega
  rw [i1, i2, i3] at hA
  rw [j1, j2, j3] at hB
  rw [and_guards_bits]
  simp only [BitVec.getLsbD_and, Bool.and_eq_true]
  constructor
  · rintro ⟨⟨a1, b1⟩, ⟨a2, b2⟩, a3, b3⟩
    obtain ⟨x3, x2, x1⟩ := hA.mp ⟨a1, a2, a3⟩
    obtain ⟨y3, y2, y1⟩ := hB.mp ⟨b1, b2, b3⟩
    exact ⟨⟨⟨y1, x1⟩, y2, x2⟩, y3, x3⟩
  · rintro ⟨⟨⟨y1, x1⟩, y2, x2⟩, y3, x3⟩
    obtain ⟨a1, a2, a3⟩ := hA.mpr ⟨x3, x2, x1⟩
    obtain ⟨b1, b2, b3⟩ := hB.mpr ⟨y3, y2, y1⟩
    exact ⟨⟨a1, b1⟩, ⟨a2, b2⟩, a3, b3⟩

/-- The two range tests agree. -/
theorem rangeKer_eq_rangeRef {p1 p2 p3 m1 m2 m3 r : BitVec 32} (h1 : p1.toNat ≤ 101) (h2 : p2.toNat ≤ 101)
    (h3 : p3.toNat ≤ 101) (g1 : m1.toNat ≤ 101) (g2 : m2.toNat ≤ 101) (g3 : m3.toNat ≤ 101) (r2 : r.toNat ≤ 18) :
    rangeKer p1 p2 p3 m1 m2 m3 r = rangeRef p1 p2 p3 m1 m2 m3 r := by
  have add64 : ∀ x : BitVec 32, x.toNat ≤ 200 → (IntOp.addi x 64#32).toNat = x.toNat + 64 := fun x hx => by
    unfold IntOp.addi; rw [BitVec.toNat_add, show (64#32 : BitVec 32).toNat = 64 from rfl]; omega
  have lo : ∀ x : BitVec 32, x.toNat ≤ 101 → (IntOp.addi (IntOp.subi x r) 64#32).toNat = x.toNat + 64 - r.toNat := fun x hx => by
    unfold IntOp.addi IntOp.subi
    rw [BitVec.toNat_add, BitVec.toNat_sub, show (64#32 : BitVec 32).toNat = 64 from rfl]; omega
  have hi : ∀ x : BitVec 32, x.toNat ≤ 101 → (IntOp.addi (IntOp.addi x r) 64#32).toNat = x.toNat + r.toNat + 64 := fun x hx => by
    unfold IntOp.addi
    rw [BitVec.toNat_add, BitVec.toNat_add, show (64#32 : BitVec 32).toNat = 64 from rfl]; omega
  have P := pack_toNat (add64 p1 (by omega)) (add64 p2 (by omega)) (add64 p3 (by omega)) (by omega) (by omega) (by omega)
  have L := pack_toNat (lo m1 g1) (lo m2 g2) (lo m3 g3) (by omega) (by omega) (by omega)
  have H := pack_toNat (hi m1 g1) (hi m2 g2) (hi m3 g3) (by omega) (by omega) (by omega)
  have A := guarded_sub_toNat (u := p1.toNat + r.toNat + 512 - m1.toNat) (v := p2.toNat + r.toNat + 512 - m2.toNat)
    (w := p3.toNat + r.toNat + 512 - m3.toNat) P L (by omega) (by omega) (by omega) (by omega) (by omega) (by omega)
    (by omega) (by omega) (by omega)
  have B := guarded_sub_toNat (u := m1.toNat + r.toNat + 512 - p1.toNat) (v := m2.toNat + r.toNat + 512 - p2.toNat)
    (w := m3.toNat + r.toNat + 512 - p3.toNat) H P (by omega) (by omega) (by omega) (by omega) (by omega) (by omega)
    (by omega) (by omega) (by omega)
  have key := guards_iff_near h1 h2 h3 g1 g2 g3 r2 A B
  have k1 := absi_sle_iff (p := p1) (m := m1) (r := r) rfl rfl rfl (by omega) (by omega) (by omega)
  have k2 := absi_sle_iff (p := p2) (m := m2) (r := r) rfl rfl rfl (by omega) (by omega) (by omega)
  have k3 := absi_sle_iff (p := p3) (m := m3) (r := r) rfl rfl rfl (by omega) (by omega) (by omega)
  unfold rangeKer rangeRef
  generalize IntOp.subi (IntOp.addi (pack p1 p2 p3) guards) _ = wa at key ⊢
  generalize IntOp.subi (IntOp.addi _ guards) (pack p1 p2 p3) = wb at key ⊢
  simp only [IntOp.cmpi, k1, k2, k3]
  show BitVec.ofBool ((wa &&& wb) &&& guards == guards) = (BitVec.ofBool _ &&& BitVec.ofBool _) &&& BitVec.ofBool _
  rw [BitVec.ofBool_and_ofBool, BitVec.ofBool_and_ofBool]
  refine congrArg BitVec.ofBool ?_
  rw [Bool.eq_iff_iff, beq_iff_eq, key]
  simp only [Bool.and_eq_true, decide_eq_true_eq]

end Cert.Value

end
-- ==== Proof.Power.lean ====
/-
  The exponent. The kernel regroups the reference's quadratic form (a sum of six products `c · d · d'` of a covariance
  entry and two differences). Where every entry is finite the two are equal by algebra; where one is infinite the two
  are both infinite, though perhaps of opposite sign. `fold` forgets the sign of an infinity, and the two exponents
  have the same `fold`.
-/
module

public import Idealize.ShloMosaic.PureOps.Ideal
public import Idealize.ShloMosaic.PureOps.Ideal.Laws

@[expose] public section

noncomputable section

namespace Cert.Value

open Idealize.ShloMosaic

/-- An extended real with the sign of an infinity forgotten. -/
def fold : EReal → WithTop ℝ
  | ⊥ => ⊤
  | ⊤ => ⊤
  | (r : ℝ) => (r : WithTop ℝ)

/-- Minus infinity folds to the top. -/
@[simp] theorem fold_bot : fold ⊥ = ⊤ := rfl
/-- Infinity folds to the top. -/
@[simp] theorem fold_top : fold ⊤ = ⊤ := rfl
/-- A real folds to itself. -/
@[simp] theorem fold_coe (r : ℝ) : fold (r : EReal) = (r : WithTop ℝ) := rfl

/-- A real multiple of a folded number; zero times anything is zero. -/
def scale (r : ℝ) (x : WithTop ℝ) : WithTop ℝ := if r = 0 then 0 else x.map (r * ·)

/-- A nonzero multiple of the top is the top. -/
theorem scale_top {r : ℝ} (h : r ≠ 0) : scale r ⊤ = ⊤ := by rw [scale, if_neg h]; rfl
/-- Zero times anything is zero. -/
theorem scale_zero (x : WithTop ℝ) : scale 0 x = 0 := by rw [scale, if_pos rfl]
/-- A multiple of a real is the product. -/
theorem scale_coe (r s : ℝ) : scale r (s : WithTop ℝ) = ((r * s : ℝ) : WithTop ℝ) := by
  by_cases h : r = 0
  · rw [h, scale_zero, zero_mul]; rfl
  · rw [scale, if_neg h]; rfl

/-- `fold` takes sums to sums. -/
theorem fold_add (a b : EReal) : fold (a + b) = fold a + fold b := by
  induction a <;> induction b <;> simp [← EReal.coe_add]

/-- `fold` takes differences to sums with `-1` times the second. -/
theorem fold_sub (a b : EReal) : fold (a - b) = fold a + scale (-1) (fold b) := by
  have h1 : (-1 : ℝ) ≠ 0 := by norm_num
  induction a with
  | bot => rw [EReal.bot_sub, fold_bot, top_add]
  | top =>
    induction b with
    | top => rw [EReal.sub_top, fold_top, fold_bot, top_add]
    | bot => rw [EReal.top_sub_bot, fold_top, top_add]
    | coe s => rw [EReal.top_sub_coe, fold_top, top_add]
  | coe r =>
    induction b with
    | top => rw [EReal.sub_top, fold_top, fold_bot, scale_top h1, add_top]
    | bot => rw [EReal.coe_sub_bot, fold_bot, fold_top, scale_top h1, add_top]
    | coe s => rw [← EReal.coe_sub, fold_coe, fold_coe, fold_coe, scale_coe, ← WithTop.coe_add, neg_one_mul, sub_eq_add_neg]

/-- `fold` takes a product with a real on the left to a multiple. -/
theorem fold_coe_mul (r : ℝ) (a : EReal) : fold ((r : EReal) * a) = scale r (fold a) := by
  rcases lt_trichotomy r 0 with h | h | h
  · induction a with
    | bot => rw [EReal.coe_mul_bot_of_neg h, fold_top, fold_bot, scale_top h.ne]
    | coe s => rw [← EReal.coe_mul, fold_coe, fold_coe, scale_coe]
    | top => rw [EReal.coe_mul_top_of_neg h, fold_bot, fold_top, scale_top h.ne]
  · rw [h, EReal.coe_zero, zero_mul, scale_zero]; rfl
  · induction a with
    | bot => rw [EReal.coe_mul_bot_of_pos h, fold_bot, scale_top h.ne']
    | coe s => rw [← EReal.coe_mul, fold_coe, fold_coe, scale_coe]
    | top => rw [EReal.coe_mul_top_of_pos h, fold_top, scale_top h.ne']

/-- `fold` takes a product with a real on the right to a multiple. -/
theorem fold_mul_coe (r : ℝ) (a : EReal) : fold (a * (r : EReal)) = scale r (fold a) := by
  rw [mul_comm, fold_coe_mul]

/-- A multiple of a sum is the sum of the multiples. -/
theorem scale_add (r : ℝ) (x y : WithTop ℝ) : scale r (x + y) = scale r x + scale r y := by
  by_cases h : r = 0
  · rw [h, scale_zero, scale_zero, scale_zero, add_zero]
  · induction x with
    | top => rw [top_add, scale_top h, top_add]
    | coe a =>
      induction y with
      | top => rw [add_top, scale_top h, add_top]
      | coe b => rw [← WithTop.coe_add, scale_coe, scale_coe, scale_coe, ← WithTop.coe_add, mul_add]

/-- A multiple of a multiple is one multiple. -/
theorem scale_scale (r s : ℝ) (x : WithTop ℝ) : scale r (scale s x) = scale (r * s) x := by
  by_cases hs : s = 0
  · rw [hs, scale_zero, mul_zero, scale_zero, show (0 : WithTop ℝ) = ((0 : ℝ) : WithTop ℝ) from rfl, scale_coe, mul_zero]
  · by_cases hr : r = 0
    · rw [hr, scale_zero, zero_mul, scale_zero]
    · induction x with
      | top => rw [scale_top hs, scale_top hr, scale_top (mul_ne_zero hr hs)]
      | coe a => rw [scale_coe, scale_coe, scale_coe, mul_assoc]

/-- The reference's exponent. -/
def powRef (h dx dy dz c0 c1 c2 c3 c4 c5 : EReal) : EReal :=
  h * (c0 * dx * dx + c1 * dy * dy + c2 * dz * dz) - c3 * dx * dy - c4 * dy * dz - c5 * dx * dz

/-- The kernel's exponent. -/
def powKer (h dx dy dz c0 c1 c2 c3 c4 c5 : EReal) : EReal :=
  dx * (h * c0 * dx - c3 * dy - c5 * dz) + dy * (h * c1 * dy - c4 * dz) + h * c2 * dz * dz

/-- The two exponents have the same `fold`, whatever the covariance entries. -/
theorem fold_powKer_eq (h dx dy dz : ℝ) (c0 c1 c2 c3 c4 c5 : EReal) :
    fold (powKer h dx dy dz c0 c1 c2 c3 c4 c5) = fold (powRef h dx dy dz c0 c1 c2 c3 c4 c5) := by
  unfold powKer powRef
  simp only [fold_add, fold_sub, fold_coe_mul, fold_mul_coe, scale_add, scale_scale]
  rw [show dx * (dx * h) = h * (dx * dx) by ring, show dx * (-1 * dy) = -1 * (dy * dx) by ring,
    show dx * (-1 * dz) = -1 * (dz * dx) by ring, show dy * (dy * h) = h * (dy * dy) by ring,
    show dy * (-1 * dz) = -1 * (dz * dy) by ring, show dz * (dz * h) = h * (dz * dz) by ring]
  abel

/-- Numbers of equal `fold` are equal, or are infinities both. -/
theorem eq_or_infinite_of_fold {a b : EReal} (h : fold a = fold b) :
    a = b ∨ ((a = ⊤ ∨ a = ⊥) ∧ (b = ⊤ ∨ b = ⊥)) := by
  induction a <;> induction b <;> simp_all

end Cert.Value

end
-- ==== Proof.Scalar.lean ====
/-
  One point and one gaussian: the influence `a` as the kernel computes it and as the reference does, on numbers. They
  are equal when point and mean lie in the unit cube, whatever the opacity, the scales and the covariance; and `a` is
  at most one when the opacity is.
-/
module

public import proofs.«01_k».proof.Proof.Range
public import proofs.«01_k».proof.Proof.Power

@[expose] public section

noncomputable section

namespace Cert.Value

open Idealize.ShloMosaic

/-- The grid's cell size (0.01 at f32). -/
abbrev cellSize : EReal := Ideal.ofBits .f32 0x3C23D70A#32
/-- The multiplier of a gaussian's largest scale (0.04 at f32). -/
abbrev scaleMult : EReal := Ideal.ofBits .f32 0x3D23D70A#32
/-- Minus one half. -/
abbrev minusHalf : EReal := Ideal.ofBits .f32 0xBF000000#32
/-- Zero. -/
abbrev zeroLit : EReal := Ideal.ofBits .f32 0x00000000#32
/-- One. -/
abbrev oneLit : EReal := Ideal.ofBits .f32 0x3F800000#32

/-- The value of the cell size. -/
theorem cellSize_eq : cellSize = ((10737418 / 2 ^ 30 : ℝ) : EReal) := by
  simp [cellSize, Ideal.ofBits, Ideal.ieee, -EReal.coe_mul]; norm_num
/-- The value of minus one half. -/
theorem minusHalf_eq : minusHalf = ((-(1 / 2) : ℝ) : EReal) := by
  simp [minusHalf, Ideal.ofBits, Ideal.ieee, -EReal.coe_mul]; norm_num
/-- The value of the literal zero. -/
theorem zeroLit_eq : zeroLit = 0 := Ideal.ofBits_zero_f32
/-- The value of the literal one. -/
theorem oneLit_eq : oneLit = 1 := by
  simp [oneLit, Ideal.ofBits, Ideal.ieee, -EReal.coe_mul]; norm_num

/-- The grid cell of a coordinate. -/
def cell (x : EReal) : BitVec 32 := Ideal.fptosi 32 (Ideal.div (x - zeroLit) cellSize)

/-- The radius, in cells, of a gaussian of largest scale `s`: clamped between 1 and 18. -/
def radius (s : EReal) : BitVec 32 :=
  IntOp.minsi 18#32 (IntOp.maxsi 1#32 (Ideal.fptosi 32 (Ideal.liftRound Int.ceil (Ideal.div (s * scaleMult) cellSize))))

/-- A coordinate between 0 and 1 has its cell between 0 and 101. -/
theorem cell_le {x : EReal} (h0 : 0 ≤ x) (h1 : x ≤ 1) : (cell x).toNat ≤ 101 := by
  lift x to ℝ using ⟨ne_top_of_le_ne_top (EReal.coe_ne_top 1) h1, ne_bot_of_le_ne_bot EReal.zero_ne_bot h0⟩
  have h0 : 0 ≤ x := by exact_mod_cast h0
  have h1 : x ≤ 1 := by exact_mod_cast h1
  have hne : cellSize ≠ 0 := by rw [cellSize_eq]; exact_mod_cast (by norm_num : (10737418 / 2 ^ 30 : ℝ) ≠ 0)
  have e : Ideal.div ((x : EReal) - zeroLit) cellSize = ((x * (10737418 / 2 ^ 30 : ℝ)⁻¹ : ℝ) : EReal) := by
    rw [Ideal.div, if_neg hne, zeroLit_eq, sub_zero, cellSize_eq, ← EReal.coe_inv, ← EReal.coe_mul]
  unfold cell
  rw [e]
  have b0 : 0 ≤ x * (10737418 / 2 ^ 30 : ℝ)⁻¹ := by positivity
  have b1 : x * (10737418 / 2 ^ 30 : ℝ)⁻¹ < 102 := by
    have : (10737418 / 2 ^ 30 : ℝ)⁻¹ < 102 := by norm_num
    have p : 0 < (10737418 / 2 ^ 30 : ℝ)⁻¹ := by norm_num
    nlinarith
  generalize x * (10737418 / 2 ^ 30 : ℝ)⁻¹ = r at b0 b1
  have f0 : 0 ≤ ⌊r⌋ := Int.floor_nonneg.mpr b0
  have f1 : ⌊r⌋ < 102 := Int.floor_lt.mpr (by exact_mod_cast b1)
  have t : Ideal.fptosi 32 (r : EReal) = BitVec.ofInt 32 ⌊r⌋ := by
    show BitVec.ofInt 32 (max (-(2 ^ (32 - 1) : Nat)) (min ((2 ^ (32 - 1) : Nat) - 1) (if 0 ≤ r then ⌊r⌋ else ⌈r⌉))) = _
    rw [if_pos b0]
    congr 1
    omega
  rw [t, BitVec.toNat_ofInt]
  omega

/-- The radius lies between 1 and 18, so it is at most 18 read unsigned. -/
theorem radius_le (s : EReal) : (radius s).toNat ≤ 18 := by
  unfold radius
  generalize Ideal.fptosi 32 (Ideal.liftRound Int.ceil (Ideal.div (s * scaleMult) cellSize)) = k
  unfold IntOp.minsi IntOp.maxsi
  have h18 : (18#32 : BitVec 32).toInt = 18 := rfl
  have h1 : (1#32 : BitVec 32).toInt = 1 := rfl
  have key : ∀ y : BitVec 32, 1 ≤ y.toInt → (if (18#32 : BitVec 32).slt y then (18#32 : BitVec 32) else y).toNat ≤ 18 := by
    intro y hy
    split
    · decide
    · rename_i h
      rw [BitVec.slt_iff_toInt_lt, h18] at h
      have hb := y.isLt
      have hc := BitVec.toInt_eq_toNat_cond y
      split at hc <;> omega
  apply key
  split
  · rw [h1]
  · rename_i h
    rw [BitVec.slt_iff_toInt_lt, h1] at h
    omega

/-- The reference's influence of a gaussian at a point. -/
def influenceRef (px py pz gx gy gz s op c0 c1 c2 c3 c4 c5 : EReal) : EReal :=
  Scalar.select
    (IntOp.andi (rangeRef (cell px) (cell py) (cell pz) (cell gx) (cell gy) (cell gz) (radius s))
      (Ideal.cmp .ole (powRef minusHalf (px - gx) (py - gy) (pz - gz) c0 c1 c2 c3 c4 c5) zeroLit))
    (Ideal.exp (min (powRef minusHalf (px - gx) (py - gy) (pz - gz) c0 c1 c2 c3 c4 c5) zeroLit) * op) zeroLit

/-- The kernel's influence of a gaussian at a point. -/
def influenceKer (px py pz gx gy gz s op c0 c1 c2 c3 c4 c5 : EReal) : EReal :=
  Scalar.select
    (IntOp.andi (rangeKer (cell px) (cell py) (cell pz) (cell gx) (cell gy) (cell gz) (radius s))
      (Ideal.cmp .ole (powKer minusHalf (px - gx) (py - gy) (pz - gz) c0 c1 c2 c3 c4 c5) zeroLit))
    (Ideal.exp (powKer minusHalf (px - gx) (py - gy) (pz - gz) c0 c1 c2 c3 c4 c5) * op) zeroLit

/-- A choice on two bits joined, the second a comparison with zero, as a nested choice on numbers. -/
theorem select_range (w : BitVec 1) (p z a : EReal) :
    Scalar.select (IntOp.andi w (Ideal.cmp .ole p z)) a z = if w = 1 ∧ p ≤ z then a else z := by
  have hw : w = 0#1 ∨ w = 1#1 := by revert w; decide
  unfold Scalar.select IntOp.andi Ideal.cmp
  by_cases hp : p ≤ z
  · rcases hw with rfl | rfl <;> simp [hp]
  · rcases hw with rfl | rfl <;> simp [hp]

/-- A real number's exponential at most 1 at a nonpositive exponent. -/
theorem exp_le_one {p : EReal} (h : p ≤ 0) : 0 ≤ Ideal.exp p ∧ Ideal.exp p ≤ 1 := by
  induction p with
  | bot => exact ⟨le_rfl, zero_le_one⟩
  | top => exact absurd h (by simp)
  | coe r =>
    have hr : r ≤ 0 := by exact_mod_cast h
    show (0 : EReal) ≤ ((Real.exp r : ℝ) : EReal) ∧ ((Real.exp r : ℝ) : EReal) ≤ 1
    exact ⟨by exact_mod_cast (Real.exp_pos r).le, by exact_mod_cast Real.exp_le_one_iff.mpr hr⟩

/-- The two influences agree for a point and a mean in the unit cube. -/
theorem influenceKer_eq {px py pz gx gy gz : EReal} (s op c0 c1 c2 c3 c4 c5 : EReal)
    (hx : 0 ≤ px ∧ px ≤ 1) (hy : 0 ≤ py ∧ py ≤ 1) (hz : 0 ≤ pz ∧ pz ≤ 1)
    (kx : 0 ≤ gx ∧ gx ≤ 1) (ky : 0 ≤ gy ∧ gy ≤ 1) (kz : 0 ≤ gz ∧ gz ≤ 1) :
    influenceKer px py pz gx gy gz s op c0 c1 c2 c3 c4 c5 = influenceRef px py pz gx gy gz s op c0 c1 c2 c3 c4 c5 := by
  unfold influenceKer influenceRef
  rw [rangeKer_eq_rangeRef (cell_le hx.1 hx.2) (cell_le hy.1 hy.2) (cell_le hz.1 hz.2) (cell_le kx.1 kx.2)
    (cell_le ky.1 ky.2) (cell_le kz.1 kz.2) (radius_le s)]
  have fin : ∀ {x : EReal}, 0 ≤ x ∧ x ≤ 1 → ∃ r : ℝ, x = r := fun {x} h =>
    ⟨x.toReal, (EReal.coe_toReal (ne_top_of_le_ne_top (EReal.coe_ne_top 1) h.2) (ne_bot_of_le_ne_bot EReal.zero_ne_bot h.1)).symm⟩
  obtain ⟨x, rfl⟩ := fin hx
  obtain ⟨y, rfl⟩ := fin hy
  obtain ⟨z, rfl⟩ := fin hz
  obtain ⟨u, rfl⟩ := fin kx
  obtain ⟨v, rfl⟩ := fin ky
  obtain ⟨w, rfl⟩ := fin kz
  have hf := fold_powKer_eq (-(1 / 2)) (x - u) (y - v) (z - w) c0 c1 c2 c3 c4 c5
  rw [EReal.coe_sub, EReal.coe_sub, EReal.coe_sub, ← minusHalf_eq] at hf
  rw [select_range, select_range]
  generalize powKer minusHalf _ _ _ c0 c1 c2 c3 c4 c5 = P at hf ⊢
  generalize powRef minusHalf _ _ _ c0 c1 c2 c3 c4 c5 = Q at hf ⊢
  rw [zeroLit_eq]
  have top0 : ¬ ((⊤ : EReal) ≤ 0) := by simp
  have bot0 : Ideal.exp ⊥ * op = 0 := by rw [show Ideal.exp ⊥ = 0 from rfl, zero_mul]
  have botm : Ideal.exp (min ⊥ 0) * op = 0 := by rw [min_eq_left bot_le, bot0]
  rcases eq_or_infinite_of_fold hf with rfl | ⟨rfl | rfl, rfl | rfl⟩
  · by_cases hP : P ≤ 0
    · rw [min_eq_left hP]
    · rw [if_neg (fun h => hP h.2), if_neg (fun h => hP h.2)]
  · rw [if_neg (fun h => top0 h.2), if_neg (fun h => top0 h.2)]
  · rw [if_neg (fun h => top0 h.2), botm, ite_self]
  · rw [if_neg (fun h : _ ∧ (⊤ : EReal) ≤ 0 => top0 h.2), bot0, ite_self]
  · rw [bot0, botm]

/-- The influence is at most one when the opacity is, so what it leaves is nonnegative. -/
theorem one_sub_influence_nonneg {px py pz gx gy gz s op c0 c1 c2 c3 c4 c5 : EReal} (hop : op ≤ 1) :
    0 ≤ oneLit - influenceRef px py pz gx gy gz s op c0 c1 c2 c3 c4 c5 := by
  have h : influenceRef px py pz gx gy gz s op c0 c1 c2 c3 c4 c5 ≤ 1 := by
    unfold influenceRef
    rw [select_range, zeroLit_eq]
    split
    · have hb := exp_le_one (min_le_right (powRef minusHalf (px - gx) (py - gy) (pz - gz) c0 c1 c2 c3 c4 c5) 0)
      calc _ ≤ Ideal.exp (min (powRef minusHalf (px - gx) (py - gy) (pz - gz) c0 c1 c2 c3 c4 c5) 0) * 1 :=
            mul_le_mul_of_nonneg_left hop hb.1
        _ ≤ 1 := by rw [mul_one]; exact hb.2
    · exact zero_le_one
  rw [oneLit_eq]
  exact EReal.sub_nonneg (Or.inl (EReal.coe_ne_top 1)) (Or.inl (EReal.coe_ne_bot 1)) |>.mpr h

end Cert.Value

end
-- ==== Proof.Product.lean ====
/-
  The product of 1280 factors. The kernel multiplies ten chunks of 128 lanes factor by factor, takes the logarithm of each lane,
  adds the 128 logarithms and takes the exponential; the reference multiplies one factor after another. Over the
  extended reals these agree for nonnegative factors, zero and infinity included.
-/
module

public import Idealize.ShloMosaic.PureOps.Ideal
public import Idealize.ShloMosaic.PureOps.Ideal.Laws

@[expose] public section

noncomputable section

namespace Cert.Value

open Idealize.ShloMosaic

/-- The logarithm of a product of nonnegative numbers is the sum of the logarithms (`⊥` where a factor is zero). -/
theorem log_mul {x y : EReal} (hx : 0 ≤ x) (hy : 0 ≤ y) : Ideal.log (x * y) = Ideal.log x + Ideal.log y := by
  have lz : Ideal.log 0 = ⊥ := by
    show (if (0 : ℝ) ≤ 0 then (⊥ : EReal) else _) = ⊥
    rw [if_pos le_rfl]
  have lr : ∀ r : ℝ, 0 < r → Ideal.log (r : EReal) = (Real.log r : EReal) := fun r hr => by
    show (if r ≤ 0 then (⊥ : EReal) else _) = _
    rw [if_neg (not_le.mpr hr)]
  rcases hx.eq_or_lt with rfl | hx
  · rw [zero_mul, lz, EReal.bot_add]
  rcases hy.eq_or_lt with rfl | hy
  · rw [mul_zero, lz, EReal.add_bot]
  induction x with
  | bot => exact absurd hx (by simp)
  | top =>
    rw [EReal.top_mul_of_pos hy]
    induction y with
    | bot => exact absurd hy (by simp)
    | top => rfl
    | coe b =>
      rw [lr b (by exact_mod_cast hy)]; rfl
  | coe a =>
    have ha : 0 < a := by exact_mod_cast hx
    induction y with
    | bot => exact absurd hy (by simp)
    | top => rw [EReal.mul_top_of_pos hx, lr a ha]; rfl
    | coe b =>
      have hb : 0 < b := by exact_mod_cast hy
      rw [← EReal.coe_mul, lr _ (mul_pos ha hb), lr a ha, lr b hb, Real.log_mul ha.ne' hb.ne', EReal.coe_add]

/-- The exponential undoes the logarithm on nonnegative numbers. -/
theorem exp_log {x : EReal} (hx : 0 ≤ x) : Ideal.exp (Ideal.log x) = x := by
  induction x with
  | bot => exact absurd hx (by simp)
  | top => rfl
  | coe r =>
    have hr : 0 ≤ r := by exact_mod_cast hx
    show Ideal.exp (if r ≤ 0 then (⊥ : EReal) else _) = _
    rcases hr.eq_or_lt with rfl | h
    · rw [if_pos le_rfl]; rfl
    · rw [if_neg (not_le.mpr h)]
      show ((Real.exp (Real.log r) : ℝ) : EReal) = _
      rw [Real.exp_log h]

/-- The logarithm of one is zero. -/
theorem log_one : Ideal.log 1 = 0 := by
  show (if (1 : ℝ) ≤ 0 then (⊥ : EReal) else ((Real.log 1 : ℝ) : EReal)) = 0
  rw [if_neg (by norm_num), Real.log_one]; rfl

/-- A finite sum of logarithms of nonnegative numbers is the logarithm of a nonnegative product. -/
theorem sum_log {ι : Type} [DecidableEq ι] (s : Finset ι) (f : ι → EReal) (hf : ∀ i, 0 ≤ f i) :
    0 ≤ ∏ i ∈ s, f i ∧ ∑ i ∈ s, Ideal.log (f i) = Ideal.log (∏ i ∈ s, f i) := by
  induction s using Finset.induction_on with
  | empty => exact ⟨by simp, by simp [log_one]⟩
  | insert a s ha ih =>
    rw [Finset.prod_insert ha, Finset.sum_insert ha, ih.2, log_mul (hf a) ih.1]
    exact ⟨mul_nonneg (hf a) ih.1, rfl⟩

/-- The exponential of a sum of logarithms of nonnegative numbers is their product. -/
theorem exp_sum_log {ι : Type} [Fintype ι] [DecidableEq ι] (f : ι → EReal) (hf : ∀ i, 0 ≤ f i) :
    Ideal.exp (∑ i, Ideal.log (f i)) = ∏ i, f i := by
  rw [(sum_log Finset.univ f hf).2, exp_log (sum_log Finset.univ f hf).1]

/-- The product over 1280 factors, lane by lane: ten factors 128 apart in each of 128 lanes. -/
theorem prod_lanes (f : ℕ → EReal) :
    ∏ l : Fin 128, (f l * f (128 + l) * f (256 + l) * f (384 + l) * f (512 + l) * f (640 + l) * f (768 + l) * f (896 + l)
      * f (1024 + l) * f (1152 + l)) = ∏ j : Fin 1280, f j := by
  have e : ∏ j : Fin 1280, f j = ∏ p : Fin 10 × Fin 128, f (p.2 + 128 * p.1) := by
    refine (Fintype.prod_equiv (finProdFinEquiv (m := 10) (n := 128)) _ _ fun p => ?_).symm
    rfl
  rw [e, Fintype.prod_prod_type_right]
  refine Finset.prod_congr rfl fun l _ => ?_
  simp only [Fin.prod_univ_succ, Fin.prod_univ_zero, Fin.val_zero, Fin.val_succ, mul_one, mul_zero, add_zero, zero_add,
    Nat.reduceAdd, Nat.reduceMul, Nat.add_comm (l : ℕ), mul_assoc]

/-- The factors multiplied one after another from one. -/
def runProd (f : ℕ → EReal) : ℕ → EReal
  | 0 => 1
  | k + 1 => runProd f k * f k

/-- The running product of `n` factors is their product. -/
theorem runProd_eq (f : ℕ → EReal) (n : ℕ) : runProd f n = ∏ j : Fin n, f j := by
  rw [Fin.prod_univ_eq_prod_range]
  induction n with
  | zero => rfl
  | succ n ih => rw [Finset.prod_range_succ, runProd, ih]

/-- The kernel's way to the product and the reference's agree. -/
theorem exp_lanes_eq_runProd (f : ℕ → EReal) (hf : ∀ j, 0 ≤ f j) :
    Ideal.exp (∑ l : Fin 128, Ideal.log (f l * f (128 + l) * f (256 + l) * f (384 + l) * f (512 + l) * f (640 + l)
      * f (768 + l) * f (896 + l) * f (1024 + l) * f (1152 + l))) = runProd f 1280 := by
  rw [exp_sum_log, prod_lanes, runProd_eq]
  intro l
  repeat' apply mul_nonneg
  all_goals exact hf _

/-- Column `n` of row `r`, read by a natural number: 1 past the last column. -/
def column (A : Fin 1280 → EReal) (n : ℕ) : EReal := if h : n < 1280 then A ⟨n, h⟩ else 1

end Cert.Value

end
-- ==== Proof.Payload.lean ====
/-
  The kernel's payloads read at an index, on the extended reals: one trip's influences, its product of what they leave,
  and its contraction with the features, as functions of the thirteen rows and the three point columns.
-/
module

public import proofs.«01_k».proof.Proof.Gen.KernelIdeal.Skeleton
public import proofs.«01_k».proof.Proof.Scalar
public import proofs.«01_k».proof.Proof.Product
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen Cert.Value

/-- Row `n` of the gaussians' parameters. -/
def row (W : FVec Ideal S13x1280 .f32) (n : Fin 13) : FVec Ideal S1x1280 .f32 := fun y => W (ix2 n (y 1))

/-- One trip's influences, from the parameter rows and the trip's three point columns. -/
def tripInfluence (W : FVec Ideal S13x1280 .f32) (px py pz : Vec Ideal S2000x1 .f32) : FVec Ideal S2000x1280 .f32 :=
  k0_pay14 (row W 1) (row W 2) (row W 6) (row W 10) (row W 11) (row W 12) (k0_pay34 (row W 7)) (k0_pay35 (row W 8))
    (k0_pay36 (row W 9))
    (k0_pay1 (k0_pay38 (row W 1) (row W 3) (row W 4) (row W 5) (k0_pay30 (F := Ideal) (row W 0)))
      (k0_pay39 (row W 2) (row W 3) (row W 4) (row W 5)) 64#32)
    (k0_pay2 (k0_pay30 (F := Ideal) (row W 0)) (k0_pay31 (row W 1)) (k0_pay32 (row W 2)) (k0_pay33 (row W 3) (row W 4) (row W 5)))
    (k0_pay9 (F := Ideal) pz) (k0_pay10 (F := Ideal) px py pz) (k0_pay11 (F := Ideal) px py pz)
    (k0_pay12 (F := Ideal) (row W 0) px) (k0_pay13 (F := Ideal) py)

/-- A trip's influences at an index. -/
theorem tripInfluence_apply (W : FVec Ideal S13x1280 .f32) (px py pz : Vec Ideal S2000x1 .f32) (r : Fin 2000) (j : Fin 1280) :
    tripInfluence W px py pz (ix2 r j) = influenceKer (px (ix2 r 0)) (py (ix2 r 0)) (pz (ix2 r 0)) (W (ix2 0 j)) (W (ix2 1 j))
      (W (ix2 2 j)) (max (max (W (ix2 3 j)) (W (ix2 4 j))) (W (ix2 5 j))) (W (ix2 6 j)) (W (ix2 7 j)) (W (ix2 8 j))
      (W (ix2 9 j)) (W (ix2 10 j)) (W (ix2 11 j)) (W (ix2 12 j)) := by
  unfold tripInfluence k0_pay14 k0_pay34 k0_pay35 k0_pay36 k0_pay1 k0_pay38 k0_pay39 k0_pay2 k0_pay30 k0_pay31 k0_pay32
    k0_pay33 k0_pay17 k0_pay11 k0_pay10 k0_pay9 k0_pay12 k0_pay13 k0_pay8 k0_pay7
  simp only [shapeCast_self]
  have bx : ∀ {α : Type} (v : S1x1280.Idx → α) h, broadcastTo S2000x1280 v h (ix2 r j) = v (ix2 0 j) := fun v h => by
    pointwise
  have by' : ∀ {α : Type} (v : S2000x1.Idx → α) h, broadcastTo S2000x1280 v h (ix2 r j) = v (ix2 r 0) := fun v h => by
    pointwise
  simp only [select, andi, subi, addi, ori, shli, cmpi, cmpf, mulf, addf, subf, exp, bx, by']
  rfl

/-- The product, lane by lane, of the first five blocks of 128 columns. -/
def firstFive (A : FVec Ideal S2000x1280 .f32) : FVec Ideal S2000x128 .f32 :=
  mulf (mulf (mulf (mulf (extractStridedSlice S2000x128 ![0, 0] A slices_S2000x1280_o0_0_S2000x128)
    (extractStridedSlice S2000x128 ![0, 128] A slices_S2000x1280_o0_128_S2000x128))
    (extractStridedSlice S2000x128 ![0, 256] A slices_S2000x1280_o0_256_S2000x128))
    (extractStridedSlice S2000x128 ![0, 384] A slices_S2000x1280_o0_384_S2000x128))
    (extractStridedSlice S2000x128 ![0, 512] A slices_S2000x1280_o0_512_S2000x128)

/-- The summed logarithms of the 128 lane products of `f`. -/
def laneLogs (f : ℕ → EReal) : EReal :=
  ∑ l : Fin 128, Ideal.log (f l * f (128 + l) * f (256 + l) * f (384 + l) * f (512 + l)
        * f (640 + l) * f (768 + l) * f (896 + l) * f (1024 + l) * f (1152 + l))

/-- The third result of a row: one minus the exponential of the summed logarithms of the lane products. -/
theorem product_apply (A : FVec Ideal S2000x1280 .f32) (r : Fin 2000) :
    k0_pay3 A (firstFive A) (ix2 r 0) = oneLit - Ideal.exp (laneLogs (column fun j => A (ix2 r j))) := by
  unfold laneLogs
  have hc : ∀ (n : ℕ) (h : n < 1280), column (fun j => A (ix2 r j)) n = A (ix2 r ⟨n, h⟩) := fun n h => dif_pos h
  unfold k0_pay3 firstFive
  pointwise
  refine congrArg (fun t => (1 : EReal) - Ideal.exp t) (Finset.sum_congr rfl fun l _ => ?_)
  have hl := l.isLt
  rw [hc l (by omega), hc (128 + l) (by omega), hc (256 + l) (by omega), hc (384 + l) (by omega), hc (512 + l) (by omega),
    hc (640 + l) (by omega), hc (768 + l) (by omega), hc (896 + l) (by omega), hc (1024 + l) (by omega), hc (1152 + l) (by omega)]

/-- The contraction with the features, read at an index. -/
theorem contraction_apply (S : FVec Ideal S1280x18 .f32) (A : FVec Ideal S2000x1280 .f32) (r : Fin 2000) (n : Fin 18) :
    k0_pay4 S A (ix2 r n) = ∑ j : Fin 1280, A (ix2 r j) * S (ix2 j n) := by
  unfold k0_pay4
  pointwise

/-- A trip's logits at an index. -/
theorem logits_apply (S : FVec Ideal S1280x18 .f32) (A : FVec Ideal S2000x1280 .f32) (r : Fin 2000) (n : Fin 17) :
    k0_pay5 S A (ix2 r n) = ∑ j : Fin 1280, A (ix2 r j) * S (ix2 j (⟨n.val, by omega⟩ : Fin 18)) := by
  rw [← contraction_apply]
  unfold k0_pay5
  pointwise

/-- A trip's density at an index. -/
theorem density_apply (S : FVec Ideal S1280x18 .f32) (A : FVec Ideal S2000x1280 .f32) (r : Fin 2000) :
    k0_pay6 S A (ix2 r 0) = ∑ j : Fin 1280, A (ix2 r j) * S (ix2 j (17 : Fin 18)) := by
  rw [← contraction_apply]
  unfold k0_pay6
  pointwise

end Cert.KernelIdeal.Value

end
-- ==== Proof.Block.lean ====
/-
  What the kernel's one run leaves in the output block: every store of every trip is the tile its rectangle names of one
  function of the three input blocks, so the block is that function.
-/
module

public import proofs.«01_k».proof.Proof.Gen.KernelIdeal.Frame
public import proofs.«01_k».proof.Proof.Payload
public import Idealize.ShloMosaic.Lib.Pipeline.Value
public import Idealize.ShloMosaic.Lib.Pipeline.ValueKit.Tiles

@[expose] public section

set_option maxRecDepth 16384

noncomputable section

namespace Cert.KernelIdeal.Value

open Idealize.ShloMosaic Idealize.ShloMosaic.TcCoe Idealize.SL.Sem
open Cert.KernelIdeal Cert.KernelIdeal.Gen Cert.Value

/-- The influence of gaussian `j` at point `i`, from the points and the parameter rows. -/
def influence (P : Vec Ideal S10000x3 .f32) (W : Vec Ideal S13x1280 .f32) (i : Fin 10000) (j : Fin 1280) : EReal :=
  influenceKer (P (ix2 i 0)) (P (ix2 i 1)) (P (ix2 i 2)) (W (ix2 0 j)) (W (ix2 1 j))
      (W (ix2 2 j)) (max (max (W (ix2 3 j)) (W (ix2 4 j))) (W (ix2 5 j))) (W (ix2 6 j)) (W (ix2 7 j)) (W (ix2 8 j))
      (W (ix2 9 j)) (W (ix2 10 j)) (W (ix2 11 j)) (W (ix2 12 j))

/-- The contraction of a point's influences with a feature column. -/
def contraction (P : Vec Ideal S10000x3 .f32) (W : Vec Ideal S13x1280 .f32) (S : Vec Ideal S1280x18 .f32) (i : Fin 10000)
    (n : Fin 18) : EReal := ∑ j : Fin 1280, influence P W i j * S (ix2 j n)

/-- One minus the product of what the influences leave, as the kernel takes it: through logarithms. -/
def occupied (P : Vec Ideal S10000x3 .f32) (W : Vec Ideal S13x1280 .f32) (i : Fin 10000) : EReal :=
  oneLit - Ideal.exp (laneLogs (column fun j => oneLit - influence P W i j))

/-- The output block: seventeen logits, the occupancy, the density. -/
def block (P : Vec Ideal S10000x3 .f32) (W : Vec Ideal S13x1280 .f32) (S : Vec Ideal S1280x18 .f32) : Vec Ideal S10000x19 .f32 :=
  fun y => if h : (y 1).val < 17 then contraction P W S (y 0) ⟨(y 1).val, by omega⟩
    else if (y 1).val = 17 then occupied P W (y 0) else contraction P W S (y 0) 17

/-- The offset in a trip's points, x. -/
theorem off1_eq : ∀ k a, k0_off1 k a = (![2000 * k.val, 0] : Fin 2 → ℕ) a := by decide +kernel
/-- The offset in a trip's points, y. -/
theorem off2_eq : ∀ k a, k0_off2 k a = (![2000 * k.val, 1] : Fin 2 → ℕ) a := by decide +kernel
/-- The offset in a trip's points, z. -/
theorem off3_eq : ∀ k a, k0_off3 k a = (![2000 * k.val, 2] : Fin 2 → ℕ) a := by decide +kernel
/-- The offset in a trip's logits. -/
theorem off4_eq : ∀ k a, k0_off4 k a = (![2000 * k.val, 0] : Fin 2 → ℕ) a := by decide +kernel
/-- The offset in a trip's occupancy. -/
theorem off5_eq : ∀ k a, k0_off5 k a = (![2000 * k.val, 17] : Fin 2 → ℕ) a := by decide +kernel
/-- The offset in a trip's density. -/
theorem off6_eq : ∀ k a, k0_off6 k a = (![2000 * k.val, 18] : Fin 2 → ℕ) a := by decide +kernel

/-- A loaded parameter row is that row of the block. -/
theorem read_row {arg2 : Memref sig .tc .vmem S13x1280 .f32} (harg2 : arg2.IsWhole) (W : Vec Ideal S13x1280 .f32) (n : Fin 13)
    (off : Fin 2 → ℕ) (h0 : off 0 = n.val) (h1 : off 1 = 0) (inb : ∀ a, off a + (![1, 1280] : Fin 2 → ℕ) a ≤ S13x1280.size a) :
    View.readAt (Elt Ideal) arg2.view (Rect.unit (s := S13x1280) off ![1, 1280] inb).toLoadRect (harg2.unread W) = row W n := by
  rw [View.readAt_eq_ld, harg2.read_unread]
  funext y
  refine View.ld_unit_apply_of W _ _ inb y (ix2 n (y 1)) fun a => ?_
  match a with
  | ⟨0, _⟩ => have h : (y 0).val < 1 := (y 0).isLt; show n.val = off 0 + (y 0).val; omega
  | ⟨1, _⟩ => show (y 1).val = off 1 + (y 1).val; omega

/-- A loaded column of points is that column of the block, at the trip's rows. -/
theorem read_column {arg1 : Memref sig .tc .vmem S10000x3 .f32} (harg1 : arg1.IsWhole) (P : Vec Ideal S10000x3 .f32)
    (off : Fin 2 → ℕ) (k : ℕ) (c : Fin 3) (ho : ∀ a, off a = (![2000 * k, c.val] : Fin 2 → ℕ) a)
    (inb : ∀ a, off a + S2000x1.size a ≤ S10000x3.size a) (r : Fin 2000) (i : Fin 10000) (hi : i.val = 2000 * k + r.val) :
    View.readAt (Elt Ideal) arg1.view (Rect.unit (s := S10000x3) off S2000x1.size inb).toLoadRect (harg1.unread P) (ix2 r 0)
      = P (ix2 i c) := by
  rw [View.readAt_eq_ld, harg1.read_unread]
  refine View.ld_unit_apply_of P _ _ inb (ix2 r 0) (ix2 i c) fun a => ?_
  rw [ho a]
  match a with
  | ⟨0, _⟩ => exact hi
  | ⟨1, _⟩ => exact (Nat.add_zero _).symm

/-- One minus a vector, read at an index. -/
theorem left_apply (A : FVec Ideal S2000x1280 .f32) (x : S2000x1280.Idx) :
    subf (broadcast S2000x1280 (Scalar.ofBits .f32 0x3F800000#32)) A x = oneLit - A x := rfl

section Run

variable (c : Dev nD) (i : grid0.Coords) (arg1 : Memref sig .tc .vmem S10000x3 .f32) (harg1 : arg1.IsWhole)
  (arg2 : Memref sig .tc .vmem S13x1280 .f32) (harg2 : arg2.IsWhole) (arg3 : Memref sig .tc .vmem S1280x18 .f32) (harg3 : arg3.IsWhole)
  (arg4 : Memref sig .tc .vmem S10000x19 .f32) (harg4 : arg4.IsWhole)
  (P : Vec Ideal S10000x3 .f32) (W : Vec Ideal S13x1280 .f32) (S : Vec Ideal S1280x18 .f32)

/-- The first load through a trip's point column `c`. -/
abbrev pointColumn (k : Fin k0_t1_loop.trips) (off : Fin k0_t1_loop.trips → Fin 2 → ℕ)
    (inb : ∀ k, ∀ a, off k a + S2000x1.size a ≤ S10000x3.size a) : Vec Ideal S2000x1 .f32 :=
  View.readAt (Elt Ideal) arg1.view (Rect.unit (s := S10000x3) (off k) S2000x1.size (inb k)).toLoadRect (harg1.unread P)

/-- The pieces the trips before `k` leave, at the kernel's loads. -/
abbrev pieces (k : ℕ) : List (View.Piece (Elt Ideal) S10000x19 .f32) :=
  pb_k0_t1 (F := Ideal) Variants.none c none i arg1 harg1 arg2 harg2 arg3 harg3 arg4 harg4 (row W 0) (row W 1) (row W 2) (row W 6) (row W 10)
    (row W 11) (row W 12) (k0_pay30 (F := Ideal) (row W 0)) (k0_pay31 (row W 1)) (k0_pay32 (row W 2)) (k0_pay33 (row W 3) (row W 4) (row W 5))
    (k0_pay34 (row W 7)) (k0_pay35 (row W 8)) (k0_pay36 (row W 9)) S
    (k0_pay38 (row W 1) (row W 3) (row W 4) (row W 5) (k0_pay30 (F := Ideal) (row W 0)))
    (k0_pay39 (row W 2) (row W 3) (row W 4) (row W 5)) 64#32 (harg1.unread P) k

/-- The run's pieces are those of the five trips. -/
theorem run_pieces :
    (kernelRun0_A (F := Ideal) c i arg1 harg1 arg2 harg2 arg3 harg3 arg4 harg4 P W S).1
      = pieces c i arg1 harg1 arg2 harg2 arg3 harg3 arg4 harg4 P W S k0_t1_loop.trips := by
  unfold kernelRun0_A
  dsimp only
  have hS : k0_pay37 (View.readAt (Elt Ideal) arg3.view (Rect.unit (s := S1280x18) ![0, 0] S1280x18.size inb_S1280x18_S1280x18_0_0).toLoadRect
      (harg3.unread S)) = S := by
    unfold k0_pay37
    rw [shapeCast_self, View.readAt_eq_ld, harg3.read_unread]
    exact View.ld_unit_zero (by decide) _ _
  sl_unfold_words
  unfold k0_pay17 k0_pay18 k0_pay19 k0_pay20 k0_pay21 k0_pay22 k0_pay23 k0_pay24 k0_pay25 k0_pay26 k0_pay27 k0_pay28 k0_pay29
  simp only [hS, shapeCast_self]
  rw [read_row harg2 W 0 ![0, 0] rfl rfl, read_row harg2 W 1 ![1, 0] rfl rfl, read_row harg2 W 2 ![2, 0] rfl rfl,
    read_row harg2 W 3 ![3, 0] rfl rfl, read_row harg2 W 4 ![4, 0] rfl rfl, read_row harg2 W 5 ![5, 0] rfl rfl,
    read_row harg2 W 6 ![6, 0] rfl rfl, read_row harg2 W 7 ![7, 0] rfl rfl, read_row harg2 W 8 ![8, 0] rfl rfl,
    read_row harg2 W 9 ![9, 0] rfl rfl, read_row harg2 W 10 ![10, 0] rfl rfl, read_row harg2 W 11 ![11, 0] rfl rfl,
    read_row harg2 W 12 ![12, 0] rfl rfl]

/-- One trip's influences at the loads of trip `k`. -/
theorem trip_influence (k : Fin k0_t1_loop.trips) (r : Fin 2000) (g : Fin 10000) (hg : g.val = 2000 * k.val + r.val) (j : Fin 1280) :
    tripInfluence W (pointColumn arg1 harg1 P k k0_off1 k0_off1_inb) (pointColumn arg1 harg1 P k k0_off2 k0_off2_inb)
      (pointColumn arg1 harg1 P k k0_off3 k0_off3_inb) (ix2 r j) = influence P W g j := by
  have h1 : pointColumn arg1 harg1 P k k0_off1 k0_off1_inb (ix2 r 0) = P (ix2 g 0) :=
    read_column harg1 P (k0_off1 k) k.val 0 (off1_eq k) (k0_off1_inb k) r g hg
  have h2 : pointColumn arg1 harg1 P k k0_off2 k0_off2_inb (ix2 r 0) = P (ix2 g 1) :=
    read_column harg1 P (k0_off2 k) k.val 1 (off2_eq k) (k0_off2_inb k) r g hg
  have h3 : pointColumn arg1 harg1 P k k0_off3 k0_off3_inb (ix2 r 0) = P (ix2 g 2) :=
    read_column harg1 P (k0_off3 k) k.val 2 (off3_eq k) (k0_off3_inb k) r g hg
  rw [tripInfluence_apply, h1, h2, h3]
  rfl

/-- The stored density column is a tile of the block. -/
theorem tile_density (k : ℕ) (A : FVec Ideal S2000x1280 .f32)
    (hA : ∀ (r : Fin 2000) (g : Fin 10000), g.val = 2000 * k + r.val → ∀ j, A (ix2 r j) = influence P W g j)
    (x : S2000x1.Idx) (y : S10000x19.Idx) (h0 : (y 0).val = 2000 * k + (x 0).val) (h1 : (y 1).val = 18 + (x 1).val) :
    k0_pay6 (F := Ideal) S A x = block P W S y := by
  have hx : x = ix2 (n0 := 2000) (n1 := 1) (x 0) 0 := by
    funext a
    match a with
    | ⟨0, _⟩ => rfl
    | ⟨1, _⟩ => exact Fin.ext (by have h : (x 1).val < 1 := (x 1).isLt; show (x 1).val = 0; omega)
  rw [hx]
  refine (density_apply S A (x 0)).trans ?_
  unfold block
  rw [dif_neg (by omega), if_neg (by omega)]
  exact Finset.sum_congr rfl fun j _ => by rw [hA (x 0) (y 0) h0 j]

/-- The stored logits are a tile of the block. -/
theorem tile_logits (k : ℕ) (A : FVec Ideal S2000x1280 .f32)
    (hA : ∀ (r : Fin 2000) (g : Fin 10000), g.val = 2000 * k + r.val → ∀ j, A (ix2 r j) = influence P W g j)
    (x : S2000x17.Idx) (y : S10000x19.Idx) (h0 : (y 0).val = 2000 * k + (x 0).val) (h1 : (y 1).val = 0 + (x 1).val) :
    k0_pay5 (F := Ideal) S A x = block P W S y := by
  have hlt : (x 1).val < 17 := (x 1).isLt
  rw [eq_ix2 x]
  refine (logits_apply S A (x 0) (x 1)).trans ?_
  unfold block
  rw [dif_pos (by omega)]
  refine Finset.sum_congr rfl fun j _ => ?_
  rw [hA (x 0) (y 0) h0 j]
  refine congrArg (fun n => influence P W (y 0) j * S (ix2 j n)) (Fin.ext ?_)
  show (x 1).val = (y 1).val
  omega

/-- The stored occupancy column is a tile of the block. -/
theorem tile_occupied (k : ℕ) (A : FVec Ideal S2000x1280 .f32)
    (hA : ∀ (r : Fin 2000) (g : Fin 10000), g.val = 2000 * k + r.val → ∀ j, A (ix2 r j) = oneLit - influence P W g j)
    (x : S2000x1.Idx) (y : S10000x19.Idx) (h0 : (y 0).val = 2000 * k + (x 0).val) (h1 : (y 1).val = 17 + (x 1).val) :
    k0_pay3 (F := Ideal) A (firstFive A) x = block P W S y := by
  have hlt : (x 1).val < 1 := (x 1).isLt
  have hx : x = ix2 (n0 := 2000) (n1 := 1) (x 0) 0 := by
    funext a
    match a with
    | ⟨0, _⟩ => rfl
    | ⟨1, _⟩ => exact Fin.ext (by show (x 1).val = 0; omega)
  rw [hx]
  refine (product_apply A (x 0)).trans ?_
  unfold block
  rw [dif_neg (by omega), if_pos (by omega)]
  exact congrArg (fun f => oneLit - Ideal.exp (laneLogs (column f))) (funext fun j => hA (x 0) (y 0) h0 j)

/-- A payload that agrees with `f` at the coordinates its rectangle gives is the tile of `f` the rectangle names. -/
theorem tile_of_coords (f : S10000x19.Idx → EReal) {size off : Fin 2 → ℕ} (inb : ∀ a, off a + size a ≤ S10000x19.size a) (k c : ℕ)
    (ho : ∀ a, off a = (![2000 * k, c] : Fin 2 → ℕ) a) (v : (⟨2, size⟩ : Shape).Idx → EReal)
    (h : ∀ x (y : S10000x19.Idx), (y 0).val = 2000 * k + (x 0).val → (y 1).val = c + (x 1).val → v x = f y)
    (x : (Rect.unit (s := S10000x19) off size inb).shape.Idx) : v x = f ((Rect.unit (s := S10000x19) off size inb).emb x) := by
  refine h x _ ?_ ?_
  · refine (Rect.idx_unit_val (s := S10000x19) off size inb x (0 : Fin 2)).trans ?_
    rw [ho 0]
    rfl
  · refine (Rect.idx_unit_val (s := S10000x19) off size inb x (1 : Fin 2)).trans ?_
    rw [ho 1]
    rfl

/-- Trip `k`'s influences, at its loads. -/
abbrev influenceAt (k : Fin k0_t1_loop.trips) : FVec Ideal S2000x1280 .f32 :=
  tripInfluence W (pointColumn arg1 harg1 P k k0_off1 k0_off1_inb) (pointColumn arg1 harg1 P k k0_off2 k0_off2_inb)
    (pointColumn arg1 harg1 P k k0_off3 k0_off3_inb)

/-- What they leave. -/
def leftAt (k : Fin k0_t1_loop.trips) : FVec Ideal S2000x1280 .f32 :=
  subf (broadcast S2000x1280 (Scalar.ofBits .f32 0x3F800000#32)) (influenceAt arg1 harg1 P W k)

/-- Trip `k`'s stores, last first. -/
def tripPieces (k : Fin k0_t1_loop.trips) : List (View.Piece (Elt Ideal) S10000x19 .f32) :=
  [⟨Rect.unit (s := S10000x19) (k0_off6 k) S2000x1.size (k0_off6_inb k), k0_pay6 S (influenceAt arg1 harg1 P W k)⟩,
   ⟨Rect.unit (s := S10000x19) (k0_off5 k) S2000x1.size (k0_off5_inb k), k0_pay3 (leftAt arg1 harg1 P W k) (firstFive (leftAt arg1 harg1 P W k))⟩,
   ⟨Rect.unit (s := S10000x19) (k0_off4 k) S2000x17.size (k0_off4_inb k), k0_pay5 S (influenceAt arg1 harg1 P W k)⟩]

/-- The pieces before trip `k + 1` are trip `k`'s and those before it. -/
theorem pieces_succ (k : Fin k0_t1_loop.trips) :
    pieces c i arg1 harg1 arg2 harg2 arg3 harg3 arg4 harg4 P W S (k.val + 1)
      = tripPieces arg1 harg1 P W S k ++ pieces c i arg1 harg1 arg2 harg2 arg3 harg3 arg4 harg4 P W S k.val := by
  unfold pieces
  rw [pb_k0_t1_succ]
  refine congrArg (· ++ _) ?_
  unfold tripL_k0_t1 trip_k0_t1 tripPieces
  dsimp only
  unfold trip_k0_t1.sl.r_5 trip_k0_t1.sl.r_6 trip_k0_t1.sl.r_7 trip_k0_t1.sl.r trip_k0_t1.sl.r_1 trip_k0_t1.sl.r_2 trip_k0_t1.sl.r_3 trip_k0_t1.sl.r_4
  unfold k0_pay16 k0_pay15
  rfl

/-- What an influence leaves of one, at an index. -/
theorem leftAt_apply (k : Fin k0_t1_loop.trips) (x : S2000x1280.Idx) :
    leftAt arg1 harg1 P W k x = oneLit - influenceAt arg1 harg1 P W k x :=
  left_apply (influenceAt arg1 harg1 P W k) x

/-- Three pieces that are tiles of `f` are so as a list. -/
theorem tiles_of_three (f : S10000x19.Idx → EReal) (p q r : View.Piece (Elt Ideal) S10000x19 .f32)
    (hp : ∀ x : p.1.shape.Idx, p.2 x = f (p.1.emb x)) (hq : ∀ x : q.1.shape.Idx, q.2 x = f (q.1.emb x))
    (hr : ∀ x : r.1.shape.Idx, r.2 x = f (r.1.emb x)) : ∀ t ∈ [p, q, r], ∀ x : t.1.shape.Idx, t.2 x = f (t.1.emb x) :=
  List.forall_mem_cons.mpr ⟨hp, List.forall_mem_cons.mpr ⟨hq, List.forall_mem_cons.mpr ⟨hr, fun t ht => absurd ht List.not_mem_nil⟩⟩⟩

/-- Every store of trip `k` is a tile of the block. -/
theorem trip_tile (k : Fin k0_t1_loop.trips) : ∀ p ∈ tripPieces arg1 harg1 P W S k,
    ∀ x : p.1.shape.Idx, p.2 x = block P W S (p.1.emb x) := by
  have hA : ∀ (r : Fin 2000) (g : Fin 10000), g.val = 2000 * k.val + r.val → ∀ j,
      influenceAt arg1 harg1 P W k (ix2 r j) = influence P W g j := fun r g hg j => trip_influence arg1 harg1 P W k r g hg j
  have hB : ∀ (r : Fin 2000) (g : Fin 10000), g.val = 2000 * k.val + r.val → ∀ j,
      leftAt arg1 harg1 P W k (ix2 r j) = oneLit - influence P W g j := fun r g hg j => by rw [leftAt_apply, hA r g hg j]
  unfold tripPieces
  generalize influenceAt arg1 harg1 P W k = A at hA ⊢
  generalize leftAt arg1 harg1 P W k = B at hB ⊢
  have t6 := tile_of_coords (block P W S) (k0_off6_inb k) k.val 18 (off6_eq k) (k0_pay6 S A) (tile_density P W S k.val A hA)
  have t5 := tile_of_coords (block P W S) (k0_off5_inb k) k.val 17 (off5_eq k) (k0_pay3 B (firstFive B)) (tile_occupied P W S k.val B hB)
  have t4 := tile_of_coords (block P W S) (k0_off4_inb k) k.val 0 (off4_eq k) (k0_pay5 S A) (tile_logits P W S k.val A hA)
  exact tiles_of_three (block P W S) _ _ _ t6 t5 t4

/-- Every store of the trips before `k` is a tile of the block. -/
theorem pieces_tile (k : ℕ) (hk : k ≤ k0_t1_loop.trips) : ∀ p ∈ pieces c i arg1 harg1 arg2 harg2 arg3 harg3 arg4 harg4 P W S k,
    ∀ x : p.1.shape.Idx, p.2 x = block P W S (p.1.emb x) := by
  induction k with
  | zero => intro p hp; exact absurd hp List.not_mem_nil
  | succ k ih =>
    intro p hp
    rw [show k + 1 = (⟨k, hk⟩ : Fin k0_t1_loop.trips).val + 1 from rfl, pieces_succ] at hp
    rcases List.mem_append.mp hp with h | h
    · exact trip_tile arg1 harg1 P W S ⟨k, hk⟩ p h
    · exact ih (Nat.le_of_succ_le hk) p h

/-- What the run leaves in the output's staging buffer is the block. -/
theorem out_eq : out0_A_3 (F := Ideal) c i arg1 harg1 arg2 harg2 arg3 harg3 arg4 harg4 P W S = block P W S := by
  unfold out0_A_3
  rw [View.read_writes_junk_eq_canon]
  funext y
  refine View.canon_apply_of_pieces (block P W S) _ ?_ y (cover0_A_3 c i arg1 harg1 arg2 harg2 arg3 harg3 arg4 harg4 P W S y)
  rw [run_pieces]
  exact pieces_tile c i arg1 harg1 arg2 harg2 arg3 harg3 arg4 harg4 P W S _ le_rfl

end Run

end Cert.KernelIdeal.Value

end
-- ==== Proof.KernelArray.lean ====
/-
  The output array after the kernel's run, and the three results the host lines cut out of it.
-/
module

public import proofs.«01_k».proof.Proof.Gen.KernelIdeal.Frame
public import proofs.«01_k».proof.Proof.Block
public import Idealize.ShloMosaic.Lib.Pipeline.Value
public import Idealize.ShloMosaic.Lib.Pipeline.ValueKit
public import Idealize.ShloMosaic.Lib.StableHlo.ReadAt
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen Cert.Value
open Idealize.ShloMosaic.Pipeline (Dat)

variable (m : (ℓ : Loc nD τ sig) → Buf (Elt Ideal) ℓ) (c : Dev nD)

/-- The points' window is the whole array of points. -/
theorem points_whole : iblk m c 0 t0_0 = V m c main_v0 := by
  have h : ∀ a, win0_0.index t0_0 a = 0 := by decide +kernel
  funext y
  blk_ext [iblk, h]

/-- The parameters' window is the whole array of parameter rows. -/
theorem params_whole : iblk m c 1 t0_0 = V m c main_v16 := by
  have h : ∀ a, win0_1.index t0_0 a = 0 := by decide +kernel
  funext y
  blk_ext [iblk, h]

/-- The features' window is the whole array of features. -/
theorem features_whole : iblk m c 2 t0_0 = V m c main_v18 := by
  have h : ∀ a, win0_2.index t0_0 a = 0 := by decide +kernel
  funext y
  blk_ext [iblk, h]

/-- The output array after the run is the block of the three input arrays. -/
theorem array_eq : (dats m 0 c).arrAt 3 cfg0.N = block (V m c main_v0) (V m c main_v16) (V m c main_v18) := by
  refine (dats m 0 c).arrAt_eq_of_after_last 3 t0_0 (by decide +kernel) _ fun j => ?_
  rw [after0_3]
  refine (congrFun (out_eq c _ _ _ _ _ _ _ _ _ (iblk m c 0 t0_0) (iblk m c 1 t0_0) (iblk m c 2 t0_0)) j).trans ?_
  rw [points_whole, params_whole, features_whole]
  rfl

/-- The valuation the last host lines start from holds the output array. -/
theorem exit_array :
    Pipeline.withArrays (cfgs 0).spec c (V0 m c) (fun w => (dats m 0 c).arrAt w (cfgs 0).N) (Proc.devRef .tc main_v19)
      = block (V m c main_v0) (V m c main_v16) (V m c main_v18) :=
  (Pipeline.withArrays_arr (cfgs 0).spec launch0.win.arr_inj c (V0 m c) (fun w => (dats m 0 c).arrAt w (cfgs 0).N) 3).trans
    (array_eq m c)

/-- The first result's line takes the first seventeen columns. -/
theorem tail_logits (W : Valuation τ sig (Elt Ideal)) (i : Fin 10000) (n : Fin 17) :
    (StableHlo.after (List.flatten [hostOps1 (F := Ideal)]) W (Proc.devRef .tc main_v20) : Vec Ideal S10000x17 .f32) (ix2 i n)
      = (W (Proc.devRef .tc main_v19) : Vec Ideal S10000x19 .f32) (ix2 i (n.castLE (by decide))) := by
  after_reads_at
  rfl

/-- The second result's lines take column 17. -/
theorem tail_bin (W : Valuation τ sig (Elt Ideal)) (i : Fin 10000) :
    (StableHlo.after (List.flatten [hostOps1 (F := Ideal)]) W (Proc.devRef .tc main_v22) : Vec Ideal S10000 .f32) (ix1 i)
      = (W (Proc.devRef .tc main_v19) : Vec Ideal S10000x19 .f32) (ix2 i 17) := by
  after_reads_at

/-- The third result's lines take column 18. -/
theorem tail_density (W : Valuation τ sig (Elt Ideal)) (i : Fin 10000) :
    (StableHlo.after (List.flatten [hostOps1 (F := Ideal)]) W (Proc.devRef .tc main_v24) : Vec Ideal S10000 .f32) (ix1 i)
      = (W (Proc.devRef .tc main_v19) : Vec Ideal S10000x19 .f32) (ix2 i 18) := by
  after_reads_at

variable (P : Vec Ideal S10000x3 .f32) (W : Vec Ideal S13x1280 .f32) (S : Vec Ideal S1280x18 .f32) (i : Fin 10000)

/-- The block's first seventeen columns are contractions. -/
theorem block_logits (n : Fin 17) : block P W S (ix2 i (n.castLE (by decide))) = contraction P W S i (n.castLE (by decide)) :=
  dif_pos n.isLt

/-- The block's column 17 is the occupancy. -/
theorem block_bin : block P W S (ix2 i 17) = occupied P W i := rfl

/-- The block's column 18 is the last contraction. -/
theorem block_density : block P W S (ix2 i 18) = contraction P W S i 17 := rfl

/-- The first result at a point and a class is a contraction. -/
theorem logits_at (n : Fin 17) :
    (Pipeline.afterTail₀ cfgs (dats m) 0 (V0 m) [hostOps1] c main_v20 : Vec Ideal S10000x17 .f32) (ix2 i n)
      = contraction (V m c main_v0) (V m c main_v16) (V m c main_v18) i (n.castLE (by decide)) :=
  (tail_logits _ i n).trans ((congrFun (exit_array m c) _).trans (block_logits _ _ _ i n))

/-- The second result at a point is the occupancy. -/
theorem bin_at :
    (Pipeline.afterTail₀ cfgs (dats m) 0 (V0 m) [hostOps1] c main_v22 : Vec Ideal S10000 .f32) (ix1 i)
      = occupied (V m c main_v0) (V m c main_v16) i :=
  (tail_bin _ i).trans ((congrFun (exit_array m c) _).trans (block_bin _ _ (V m c main_v18) i))

/-- The third result at a point is the last contraction. -/
theorem density_at :
    (Pipeline.afterTail₀ cfgs (dats m) 0 (V0 m) [hostOps1] c main_v24 : Vec Ideal S10000 .f32) (ix1 i)
      = contraction (V m c main_v0) (V m c main_v16) (V m c main_v18) i 17 :=
  (tail_density _ i).trans ((congrFun (exit_array m c) _).trans (block_density _ _ _ i))

end Cert.KernelIdeal.Value

end
-- ==== Proof.Gather.lean ====
/-
  A gather that takes whole columns of a matrix, one column number per result column, read at an index.
-/
module

public import Idealize.ShloMosaic.Lib.ValueIdx
public import Idealize.ShloMosaic.Lib.Pointwise

@[expose] public section

noncomputable section

namespace Cert.Value

open Idealize.ShloMosaic

/-- The dimension numbers of the gather: operand `[N, C]`, column numbers `[K, 1]`, result `[N, K]`. -/
abbrev columnDims (N C K : Nat) (wf : GatherDims.WF ⟨2, ![N, C]⟩ ⟨2, ![K, 1]⟩ ⟨2, ![N, K]⟩ [0] [1] [] [1] [] 1 ![N, 1]) :
    GatherDims ⟨2, ![N, C]⟩ ⟨2, ![K, 1]⟩ ⟨2, ![N, K]⟩ where
  offsetDims := [0]
  collapsedSliceDims := [1]
  operandBatchingDims := []
  startIndicesBatchingDims := []
  startIndexMap := [1]
  indexVectorDim := 1
  sliceSizes := ![N, 1]
  wf := wf

/-- The gather at `(j, k)` is the operand at row `j` of the column numbered `k`, the number read signed and clamped. -/
theorem gather_column {α : Type} {N C K w : Nat} (hC : 0 < C)
    (wf : GatherDims.WF ⟨2, ![N, C]⟩ ⟨2, ![K, 1]⟩ ⟨2, ![N, K]⟩ [0] [1] [] [1] [] 1 ![N, 1])
    (x : (⟨2, ![N, C]⟩ : Shape).Idx → α) (idx : IVec ⟨2, ![K, 1]⟩ w) (j : Fin N) (k : Fin K) :
    Host.gather (columnDims N C K wf) x idx (ix2 j k)
      = x (ix2 j ⟨min (idx (ix2 k (0 : Fin 1))).toInt.toNat (C - 1), by omega⟩) := by
  unfold Host.gather
  congr 1
  funext a
  refine Fin.ext ?_
  show (columnDims N C K wf).start (ix2 j k) idx a + (columnDims N C K wf).batchCoord (ix2 j k) a
      + (columnDims N C K wf).offCoord (ix2 j k) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (show (0 : Fin 2) ∉ (columnDims N C K wf).startIndexMap from by simp)]
    rw [Nat.zero_add]
    unfold GatherDims.offCoord
    rw [dif_pos ((GatherDims.mem_sKept _ _).mpr ⟨by simp, List.not_mem_nil⟩)]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (columnDims N C K wf).startIndexMap from List.mem_singleton.mpr rfl)]
    have hsi : (columnDims N C K wf).siIdx (ix2 j k) ⟨List.idxOf (1 : Fin 2) (columnDims N C K wf).startIndexMap,
        List.idxOf_lt_length_iff.2 (List.mem_singleton.mpr rfl)⟩ = ix2 k (0 : Fin 1) := by
      funext b
      refine Fin.ext ?_
      match b with
      | ⟨0, _⟩ => rfl
      | ⟨1, _⟩ => rfl
    rw [hsi]
    rfl

/-- The columns the six kept entries of a symmetric 3×3 matrix stand at, the matrix laid out by rows. -/
def pick : Fin 6 → Fin 9 := ![0, 4, 8, 1, 5, 2]

end Cert.Value

end
-- ==== Proof.KernelPrefix.lean ====
/-
  What the host lines before the kernel leave in its three input arrays, read at an index from the arguments.
-/
module

public import proofs.«01_k».proof.Proof.Gen.KernelIdeal.Frame
public import proofs.«01_k».proof.Proof.Gather
public import Idealize.ShloMosaic.Lib.StableHlo.ReadAt
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen Cert.Value

variable (m : (ℓ : Loc nD τ sig) → Buf (Elt Ideal) ℓ) (c : Dev nD)

/-- The points' array. -/
theorem points_at (i : Fin 10000) (k : Fin 3) : (V m c main_v0 : Vec Ideal S10000x3 .f32) (ix2 i k)
    = m (c.tc.loc main_arg0) (ix3 0 i k) := by
  unfold V V0
  after_reads_at

/-- The first seventeen feature columns are the semantics. -/
theorem features_at (j : Fin 1280) (n : Fin 17) : (V m c main_v18 : Vec Ideal S1280x18 .f32) (ix2 j (n.castLE (by decide)))
    = m (c.tc.loc main_arg3) (ix3 0 j n) := by
  unfold V V0
  after_reads_at
  exact dif_pos n.isLt

/-- The last feature column is ones. -/
theorem ones_at (j : Fin 1280) : (V m c main_v18 : Vec Ideal S1280x18 .f32) (ix2 j 17) = (1 : EReal) := by
  unfold V V0
  after_reads_at

/-- The column numbers the host line hands the gather. -/
abbrev columns : IVec S6x1 32 :=
  broadcastInDim S6x1 ![0] bcast_S6_S6x1_0
    (select (cmpi CmpIPredicate.slt (fun i => lit0 (S6.rowMajor i)) (broadcastInDim S6 ![] bcast_S_S6 (constantI S_ 32 0#32)))
      (addi (fun i => lit0 (S6.rowMajor i)) (broadcastInDim S6 ![] bcast_S_S6 (constantI S_ 32 9#32))) fun i => lit0 (S6.rowMajor i))

/-- They are the kept entries' columns. -/
theorem columns_at (k : Fin 6) : min (columns (ix2 k (0 : Fin 1))).toInt.toNat 8 = (pick k).val := by
  fin_cases k <;> rfl

/-- The gather's result: the kept entries of the covariances. -/
theorem entries_at (x : Vec Ideal S1280x9 .f32) (j : Fin 1280) (k : Fin 6) :
    Host.gather gather_S1280x9_S6x1_S1280x6_0_1_n_n_1_1_12801 x columns (ix2 j k) = x (ix2 j (pick k)) :=
  (gather_column (by decide) gather_S1280x9_S6x1_S1280x6_0_1_n_n_1_1_12801_wf x columns j k).trans
    (congrArg (fun v => x (ix2 j v)) (Fin.ext (columns_at k)))

/-- Parameter row 0: coordinate 0 of the means. -/
theorem mean_zero (j : Fin 1280) : (V m c main_v16 : Vec Ideal S13x1280 .f32) (ix2 0 j) = m (c.tc.loc main_arg1) (ix3 0 j 0) := by
  unfold V V0
  after_reads_at
  after_reads_at

/-- Parameter row 1: coordinate 1 of the means. -/
theorem mean_one (j : Fin 1280) : (V m c main_v16 : Vec Ideal S13x1280 .f32) (ix2 1 j) = m (c.tc.loc main_arg1) (ix3 0 j 1) := by
  unfold V V0
  after_reads_at
  after_reads_at

/-- Parameter row 2: coordinate 2 of the means. -/
theorem mean_two (j : Fin 1280) : (V m c main_v16 : Vec Ideal S13x1280 .f32) (ix2 2 j) = m (c.tc.loc main_arg1) (ix3 0 j 2) := by
  unfold V V0
  after_reads_at
  after_reads_at

/-- Parameter row 3: coordinate 0 of the scales. -/
theorem scale_zero (j : Fin 1280) : (V m c main_v16 : Vec Ideal S13x1280 .f32) (ix2 3 j) = m (c.tc.loc main_arg4) (ix3 0 j 0) := by
  unfold V V0
  after_reads_at
  after_reads_at

/-- Parameter row 4: coordinate 1 of the scales. -/
theorem scale_one (j : Fin 1280) : (V m c main_v16 : Vec Ideal S13x1280 .f32) (ix2 4 j) = m (c.tc.loc main_arg4) (ix3 0 j 1) := by
  unfold V V0
  after_reads_at
  after_reads_at

/-- Parameter row 5: coordinate 2 of the scales. -/
theorem scale_two (j : Fin 1280) : (V m c main_v16 : Vec Ideal S13x1280 .f32) (ix2 5 j) = m (c.tc.loc main_arg4) (ix3 0 j 2) := by
  unfold V V0
  after_reads_at
  after_reads_at

/-- Parameter row 6: the opacities. -/
theorem opacity_at (j : Fin 1280) : (V m c main_v16 : Vec Ideal S13x1280 .f32) (ix2 6 j) = m (c.tc.loc main_arg2) (ix2 0 j) := by
  unfold V V0
  after_reads_at
  after_reads_at

/-- The covariances laid out by rows. -/
theorem matrix_at (j : Fin 1280) (q : Fin 9) : (V m c main_v6 : Vec Ideal S1280x9 .f32) (ix2 j q)
    = m (c.tc.loc main_arg5) (ix4 0 j ⟨q.val / 3, by omega⟩ ⟨q.val % 3, by omega⟩) := by
  unfold V V0
  after_reads_at

/-- The host's gather is of the covariances at the columns. -/
theorem gathered : (V m c main_v13 : Vec Ideal S1280x6 .f32)
    = Host.gather gather_S1280x9_S6x1_S1280x6_0_1_n_n_1_1_12801 (V m c main_v6 : Vec Ideal S1280x9 .f32) columns := by
  unfold V V0
  after_reads_simp
  rfl

/-- The gathered entries. -/
theorem gathered_at (j : Fin 1280) (k : Fin 6) : (V m c main_v13 : Vec Ideal S1280x6 .f32) (ix2 j k)
    = m (c.tc.loc main_arg5) (ix4 0 j ⟨(pick k).val / 3, by omega⟩ ⟨(pick k).val % 3, by omega⟩) :=
  ((congrFun (gathered m c) _).trans (entries_at _ j k)).trans (matrix_at m c j (pick k))

/-- Parameter row 7: entry (0, 0) of the covariances. -/
theorem cov_00 (j : Fin 1280) : (V m c main_v16 : Vec Ideal S13x1280 .f32) (ix2 7 j) = m (c.tc.loc main_arg5) (ix4 0 j 0 0) := by
  refine Eq.trans ?_ (gathered_at m c j 0)
  unfold V V0
  after_reads_at
  after_reads_at

/-- Parameter row 8: entry (1, 1) of the covariances. -/
theorem cov_11 (j : Fin 1280) : (V m c main_v16 : Vec Ideal S13x1280 .f32) (ix2 8 j) = m (c.tc.loc main_arg5) (ix4 0 j 1 1) := by
  refine Eq.trans ?_ (gathered_at m c j 1)
  unfold V V0
  after_reads_at
  after_reads_at

/-- Parameter row 9: entry (2, 2) of the covariances. -/
theorem cov_22 (j : Fin 1280) : (V m c main_v16 : Vec Ideal S13x1280 .f32) (ix2 9 j) = m (c.tc.loc main_arg5) (ix4 0 j 2 2) := by
  refine Eq.trans ?_ (gathered_at m c j 2)
  unfold V V0
  after_reads_at
  after_reads_at

/-- Parameter row 10: entry (0, 1) of the covariances. -/
theorem cov_01 (j : Fin 1280) : (V m c main_v16 : Vec Ideal S13x1280 .f32) (ix2 10 j) = m (c.tc.loc main_arg5) (ix4 0 j 0 1) := by
  refine Eq.trans ?_ (gathered_at m c j 3)
  unfold V V0
  after_reads_at
  after_reads_at

/-- Parameter row 11: entry (1, 2) of the covariances. -/
theorem cov_12 (j : Fin 1280) : (V m c main_v16 : Vec Ideal S13x1280 .f32) (ix2 11 j) = m (c.tc.loc main_arg5) (ix4 0 j 1 2) := by
  refine Eq.trans ?_ (gathered_at m c j 4)
  unfold V V0
  after_reads_at
  after_reads_at

/-- Parameter row 12: entry (0, 2) of the covariances. -/
theorem cov_02 (j : Fin 1280) : (V m c main_v16 : Vec Ideal S13x1280 .f32) (ix2 12 j) = m (c.tc.loc main_arg5) (ix4 0 j 0 2) := by
  refine Eq.trans ?_ (gathered_at m c j 5)
  unfold V V0
  after_reads_at
  after_reads_at

end Cert.KernelIdeal.Value

end
-- ==== Proof.Spec.lean ====
/-
  The three results as functions of the six arguments, element by element.
-/
module

public import proofs.«01_k».proof.Proof.Scalar
public import proofs.«01_k».proof.Proof.Product
public import Idealize.ShloMosaic.Lib.Pointwise

@[expose] public section

noncomputable section

namespace Cert.Value

open Idealize.ShloMosaic

variable (pts : (⟨3, ![1, 10000, 3]⟩ : Shape).Idx → EReal) (means : (⟨3, ![1, 1280, 3]⟩ : Shape).Idx → EReal)
  (opas : (⟨2, ![1, 1280]⟩ : Shape).Idx → EReal) (sem : (⟨3, ![1, 1280, 17]⟩ : Shape).Idx → EReal)
  (scales : (⟨3, ![1, 1280, 3]⟩ : Shape).Idx → EReal) (cov : (⟨4, ![1, 1280, 3, 3]⟩ : Shape).Idx → EReal)

/-- The influence of gaussian `j` at point `i`. -/
def plainInfluence (i : Fin 10000) (j : Fin 1280) : EReal :=
  influenceRef (pts (ix3 0 i 0)) (pts (ix3 0 i 1)) (pts (ix3 0 i 2)) (means (ix3 0 j 0)) (means (ix3 0 j 1)) (means (ix3 0 j 2))
    (max (max (scales (ix3 0 j 0)) (scales (ix3 0 j 1))) (scales (ix3 0 j 2))) (opas (ix2 0 j))
    (cov (ix4 0 j 0 0)) (cov (ix4 0 j 1 1)) (cov (ix4 0 j 2 2)) (cov (ix4 0 j 0 1)) (cov (ix4 0 j 1 2)) (cov (ix4 0 j 0 2))

/-- The logit of class `n` at point `i`. -/
def logitAt (i : Fin 10000) (n : Fin 17) : EReal :=
  ∑ j : Fin 1280, plainInfluence pts means opas scales cov i j * sem (ix3 0 j n)

/-- The density at point `i`. -/
def densityAt (i : Fin 10000) : EReal := ∑ j : Fin 1280, plainInfluence pts means opas scales cov i j

/-- What gaussian `j` leaves free at point `i`; one past the last gaussian. -/
def freeAt (i : Fin 10000) : ℕ → EReal := column fun j => oneLit - plainInfluence pts means opas scales cov i j

/-- The occupancy at point `i`: one minus the product, taken in order, of what the gaussians leave. -/
def binAt (i : Fin 10000) : EReal := oneLit - runProd (freeAt pts means opas scales cov i) 1280

/-- With opacities at most one, no gaussian leaves a negative part. -/
theorem freeAt_nonneg (hop : ∀ j : Fin 1280, opas (ix2 0 j) ≤ 1) (i : Fin 10000) (n : ℕ) : 0 ≤ freeAt pts means opas scales cov i n := by
  unfold freeAt column
  split
  · exact one_sub_influence_nonneg (hop _)
  · exact zero_le_one

end Cert.Value

end
-- ==== Proof.KernelValue.lean ====
/-
  The kernel's run, its three results given element by element as functions of its arguments.
-/
module

public import proofs.«01_k».proof.Proof.KernelArray
public import proofs.«01_k».proof.Proof.KernelPrefix
public import proofs.«01_k».proof.Proof.Spec

@[expose] public section

set_option maxRecDepth 16384

noncomputable section

namespace Cert.KernelIdeal.Value

open Idealize.ShloMosaic Idealize.ShloMosaic.TcCoe Idealize.SL.Sem
open Cert.KernelIdeal Cert.KernelIdeal.Gen Cert.Value

variable (m : (ℓ : Loc nD τ sig) → Buf (Elt Ideal) ℓ) (ρ : Dev nD → PrngReg) (c : Dev nD)

/-- The points of a memory. -/
abbrev ptsOf : Vec Ideal S1x10000x3 .f32 := m (c.tc.loc main_arg0)
/-- The means of a memory. -/
abbrev meansOf : Vec Ideal S1x1280x3 .f32 := m (c.tc.loc main_arg1)
/-- The opacities of a memory. -/
abbrev opasOf : Vec Ideal S1x1280 .f32 := m (c.tc.loc main_arg2)
/-- The semantics of a memory. -/
abbrev semOf : Vec Ideal S1x1280x17 .f32 := m (c.tc.loc main_arg3)
/-- The scales of a memory. -/
abbrev scalesOf : Vec Ideal S1x1280x3 .f32 := m (c.tc.loc main_arg4)
/-- The covariances of a memory. -/
abbrev covOf : Vec Ideal S1x1280x3x3 .f32 := m (c.tc.loc main_arg5)

/-- What the equation asks of the arguments: points and means in the unit cube, opacities at most one. -/
structure InCube : Prop where
  pts : ∀ (i : Fin 10000) (k : Fin 3), 0 ≤ ptsOf m c (ix3 0 i k) ∧ ptsOf m c (ix3 0 i k) ≤ 1
  means : ∀ (j : Fin 1280) (k : Fin 3), 0 ≤ meansOf m c (ix3 0 j k) ∧ meansOf m c (ix3 0 j k) ≤ 1
  opas : ∀ j : Fin 1280, opasOf m c (ix2 0 j) ≤ 1

variable (h : InCube m c)
include h

/-- The kernel's influences are the plain ones. -/
theorem influence_at (i : Fin 10000) (j : Fin 1280) :
    influence (V m c main_v0) (V m c main_v16) i j
      = plainInfluence (ptsOf m c) (meansOf m c) (opasOf m c) (scalesOf m c) (covOf m c) i j := by
  unfold influence plainInfluence
  rw [points_at, points_at, points_at, mean_zero, mean_one, mean_two, scale_zero, scale_one, scale_two, opacity_at, cov_00, cov_11,
    cov_22, cov_01, cov_12, cov_02]
  exact influenceKer_eq _ _ _ _ _ _ _ _ (h.pts i 0) (h.pts i 1) (h.pts i 2) (h.means j 0) (h.means j 1) (h.means j 2)

/-- The kernel's contraction with a semantics column is the plain logit. -/
theorem contraction_logit (i : Fin 10000) (n : Fin 17) :
    contraction (V m c main_v0) (V m c main_v16) (V m c main_v18) i (n.castLE (by decide))
      = logitAt (ptsOf m c) (meansOf m c) (opasOf m c) (semOf m c) (scalesOf m c) (covOf m c) i n := by
  unfold contraction logitAt
  refine Finset.sum_congr rfl fun j _ => ?_
  rw [influence_at m c h, features_at]

/-- The kernel's occupancy is the plain one. -/
theorem occupied_bin (i : Fin 10000) :
    occupied (V m c main_v0) (V m c main_v16) i
      = binAt (ptsOf m c) (meansOf m c) (opasOf m c) (scalesOf m c) (covOf m c) i := by
  unfold occupied binAt
  rw [show (fun j => oneLit - influence (V m c main_v0) (V m c main_v16) i j)
      = fun j => oneLit - plainInfluence (ptsOf m c) (meansOf m c) (opasOf m c) (scalesOf m c) (covOf m c) i j from
    funext fun j => by rw [influence_at m c h]]
  exact congrArg (oneLit - ·) (exp_lanes_eq_runProd (freeAt (ptsOf m c) (meansOf m c) (opasOf m c) (scalesOf m c) (covOf m c) i)
    (freeAt_nonneg _ _ _ _ _ h.opas i))

/-- The kernel's contraction with the column of ones is the plain density. -/
theorem contraction_density (i : Fin 10000) :
    contraction (V m c main_v0) (V m c main_v16) (V m c main_v18) i 17
      = densityAt (ptsOf m c) (meansOf m c) (opasOf m c) (scalesOf m c) (covOf m c) i := by
  unfold contraction densityAt
  refine Finset.sum_congr rfl fun j _ => ?_
  rw [influence_at m c h, ones_at, mul_one]

omit h

/-- The kernel's run: its three results, and its arguments unchanged. -/
theorem run_values (h : ∀ c, InCube m c) : θ_run defs (onTc (τ := τ) (main (F := Ideal))) ⟨m, fun _ => 0, ρ⟩ (fun r => ∀ c : Dev nD,
      r.2.mem ((c.tc : Thread nD τ).loc main_v20)
          = (fun y => logitAt (ptsOf m c) (meansOf m c) (opasOf m c) (semOf m c) (scalesOf m c) (covOf m c) (y 0) (y 1) : Vec Ideal S10000x17 .f32)
      ∧ r.2.mem ((c.tc : Thread nD τ).loc main_v22)
          = (fun y => binAt (ptsOf m c) (meansOf m c) (opasOf m c) (scalesOf m c) (covOf m c) (y 0) : Vec Ideal S10000 .f32)
      ∧ r.2.mem ((c.tc : Thread nD τ).loc main_v24)
          = (fun y => densityAt (ptsOf m c) (meansOf m c) (opasOf m c) (scalesOf m c) (covOf m c) (y 0) : Vec Ideal S10000 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r hr c => ⟨?_, ?_, ?_, (hr.2 c)⟩)
    (θ_run_and (run_main m ρ) (unchanged m ρ))
  · refine ((hr.1 c).2 main_v20 (Pipeline.mem_restRefs_of main_v20 (by decide) (by decide))).trans (funext fun y => ?_)
    refine (congrArg _ (ix2_eta (n0 := 10000) (n1 := 17) y)).symm.trans ?_
    exact (logits_at m c (y 0) (y 1)).trans (contraction_logit m c (h c) (y 0) (y 1))
  · refine ((hr.1 c).2 main_v22 (Pipeline.mem_restRefs_of main_v22 (by decide) (by decide))).trans (funext fun y => ?_)
    refine (congrArg _ (ix1_eta (n0 := 10000) y)).symm.trans ?_
    exact (bin_at m c (y 0)).trans (occupied_bin m c (h c) (y 0))
  · refine ((hr.1 c).2 main_v24 (Pipeline.mem_restRefs_of main_v24 (by decide) (by decide))).trans (funext fun y => ?_)
    refine (congrArg _ (ix1_eta (n0 := 10000) y)).symm.trans ?_
    exact (density_at m c (y 0)).trans (contraction_density m c (h c) (y 0))

end Cert.KernelIdeal.Value

end
-- ==== Proof.RefPrefix.lean ====
/-
  The reference's host lines before its loop, stretch by stretch, read at an index: the grid cells, the radius, the kept
  entries of the covariances, and the influence of a gaussian at a point.
-/
module

public import proofs.«01_k».proof.Proof.Gen.ReferenceIdeal.Run
public import proofs.«01_k».proof.Proof.Spec
public import proofs.«01_k».proof.Proof.Gather
public import Idealize.ShloMosaic.Lib.StableHlo.ReadAt
public import Idealize.ShloMosaic.Lib.Pointwise

@[expose] public section

set_option maxRecDepth 16384

noncomputable section

namespace Cert.ReferenceIdeal.Value

open Idealize.ShloMosaic Idealize.ShloMosaic.TcCoe Idealize.SL.Sem
open Idealize.ShloMosaic.StableHlo
open Cert.ReferenceIdeal.Gen Cert.Value

/-- A maximum folded from minus infinity over three numbers. -/
theorem fold_max_three (f : Fin 3 → EReal) :
    Finset.fold max (Ideal.ofBits .f32 0xFF800000#32) f Finset.univ = max (max (f 0) (f 1)) (f 2) := by
  have hb : Ideal.ofBits .f32 0xFF800000#32 = (⊥ : EReal) := by simp [Ideal.ofBits, Ideal.ieee]
  have hu : (Finset.univ : Finset (Fin 3)) = {0, 1, 2} := by decide
  rw [hb, hu, Finset.fold_insert (by decide), Finset.fold_insert (by decide), Finset.fold_singleton, max_bot_right, max_assoc]

/-- A buffer's contents as extended reals. -/
abbrev reals {S : Shape} (v : Vec Ideal S .f32) : S.Idx → EReal := v

variable (W : Valuation τ sig (Elt Ideal))

/-! ## The first stretch -/

/-- The points, without their batch axis. -/
theorem head_points (i : Fin 10000) (k : Fin 3) :
    (after (hostOps0 (F := Ideal)) W (Proc.devRef .tc main_v1) : Vec Ideal S10000x3 .f32) (ix2 i k)
      = (W (Proc.devRef .tc main_arg0) : Vec Ideal S1x10000x3 .f32) (ix3 0 i k) := by
  after_reads_at

/-- The means, without their batch axis. -/
theorem head_means (j : Fin 1280) (k : Fin 3) :
    (after (hostOps0 (F := Ideal)) W (Proc.devRef .tc main_v2) : Vec Ideal S1280x3 .f32) (ix2 j k)
      = (W (Proc.devRef .tc main_arg1) : Vec Ideal S1x1280x3 .f32) (ix3 0 j k) := by
  after_reads_at

/-- The opacities, without their batch axis. -/
theorem head_opas (j : Fin 1280) :
    (after (hostOps0 (F := Ideal)) W (Proc.devRef .tc main_v3) : Vec Ideal S1280 .f32) (ix1 j)
      = (W (Proc.devRef .tc main_arg2) : Vec Ideal S1x1280 .f32) (ix2 0 j) := by
  after_reads_at

/-- The semantics, without their batch axis. -/
theorem head_sem (j : Fin 1280) (n : Fin 17) :
    (after (hostOps0 (F := Ideal)) W (Proc.devRef .tc main_v4) : Vec Ideal S1280x17 .f32) (ix2 j n)
      = (W (Proc.devRef .tc main_arg3) : Vec Ideal S1x1280x17 .f32) (ix3 0 j n) := by
  after_reads_at

/-- The covariances, without their batch axis. -/
theorem head_cov (j : Fin 1280) (a b : Fin 3) :
    (after (hostOps0 (F := Ideal)) W (Proc.devRef .tc main_v6) : Vec Ideal S1280x3x3 .f32) (ix3 j a b)
      = (W (Proc.devRef .tc main_arg5) : Vec Ideal S1x1280x3x3 .f32) (ix4 0 j a b) := by
  after_reads_at

/-- The numbers of the kept columns. -/
theorem head_columns :
    (after (hostOps0 (F := Ideal)) W (Proc.devRef .tc main_c) : Vec Ideal S6 .i32) = fun i => lit0 (S6.rowMajor i) := by
  after_reads_simp
  rfl

/-- A point's grid cell. -/
theorem head_point_cell (i : Fin 10000) (k : Fin 3) :
    (after (hostOps0 (F := Ideal)) W (Proc.devRef .tc main_v11) : Vec Ideal S10000x3 .i32) (ix2 i k)
      = cell ((W (Proc.devRef .tc main_arg0) : Vec Ideal S1x10000x3 .f32) (ix3 0 i k)) := by
  unfold cell
  rw [zeroLit_eq, sub_zero]
  after_reads_at
  rfl

/-- A mean's grid cell. -/
theorem head_mean_cell (j : Fin 1280) (k : Fin 3) :
    (after (hostOps0 (F := Ideal)) W (Proc.devRef .tc main_v16) : Vec Ideal S1280x3 .i32) (ix2 j k)
      = cell ((W (Proc.devRef .tc main_arg1) : Vec Ideal S1x1280x3 .f32) (ix3 0 j k)) := by
  unfold cell
  rw [zeroLit_eq, sub_zero]
  after_reads_at
  rfl

/-- The largest scale of a gaussian. -/
abbrev largest (x : Vec Ideal S1x1280x3 .f32) (j : Fin 1280) : EReal := max (max (x (ix3 0 j 0)) (x (ix3 0 j 1))) (x (ix3 0 j 2))

/-- The radius before the clamp. -/
theorem head_radius (j : Fin 1280) :
    (after (hostOps0 (F := Ideal)) W (Proc.devRef .tc main_v23) : Vec Ideal S1280 .i32) (ix1 j)
      = Ideal.fptosi 32 (Ideal.liftRound Int.ceil (Ideal.div (largest (W (Proc.devRef .tc main_arg4)) j * scaleMult) cellSize)) := by
  unfold largest
  after_reads_at
  rw [fold_max_three]
  rfl

/-- The least radius. -/
theorem head_low : (after (hostOps0 (F := Ideal)) W (Proc.devRef .tc main_c_5) : Vec Ideal S_ .i32) ix0 = 1#32 := by
  after_reads_at

/-- The greatest radius. -/
theorem head_high : (after (hostOps0 (F := Ideal)) W (Proc.devRef .tc main_c_6) : Vec Ideal S_ .i32) ix0 = 18#32 := by
  after_reads_at

/-! ## The clamp -/

/-- The clamped radius. -/
theorem clip_at (j : Fin 1280) :
    (after (hostOps0_1 (F := Ideal)) W (Proc.devRef .tc main_v24) : Vec Ideal S1280 .i32) (ix1 j)
      = IntOp.minsi ((W (Proc.devRef .tc main_c_6) : Vec Ideal S_ .i32) ix0)
          (IntOp.maxsi ((W (Proc.devRef .tc main_c_5) : Vec Ideal S_ .i32) ix0) ((W (Proc.devRef .tc main_v23) : Vec Ideal S1280 .i32) (ix1 j))) := by
  after_reads_at
  rfl

/-! ## The long stretch -/

/-- The column numbers handed to the gather. -/
abbrev columns (v : Vec Ideal S6 .i32) : IVec S6x1 32 :=
  broadcastInDim S6x1 ![0] bcast_S6_S6x1_0
    (select (cmpi CmpIPredicate.slt v (broadcastInDim S6 ![] bcast_S_S6 (constantI S_ 32 0#32)))
      (addi v (broadcastInDim S6 ![] bcast_S_S6 (constantI S_ 32 9#32))) v)

/-- At the literal they are the kept entries' columns. -/
theorem columns_at (k : Fin 6) :
    min (columns (fun i => lit0 (S6.rowMajor i)) (ix2 k (0 : Fin 1))).toInt.toNat 8 = (pick k).val := by
  fin_cases k <;> rfl

/-- The gather's result: the kept entries of the covariances. -/
theorem entries_at (x : Vec Ideal S1280x9 .f32) (j : Fin 1280) (k : Fin 6) :
    Host.gather gather_S1280x9_S6x1_S1280x6_0_1_n_n_1_1_12801 x (columns fun i => lit0 (S6.rowMajor i)) (ix2 j k) = x (ix2 j (pick k)) :=
  (gather_column (by decide) Facts₀.gather_S1280x9_S6x1_S1280x6_0_1_n_n_1_1_12801_wf x _ j k).trans
    (congrArg (fun v => x (ix2 j v)) (Fin.ext (columns_at k)))

/-- The covariances as rows of nine entries. -/
theorem long_matrix (j : Fin 1280) (q : Fin 9) :
    (after (hostOps0_2 (F := Ideal)) W (Proc.devRef .tc main_v25) : Vec Ideal S1280x9 .f32) (ix2 j q)
      = (W (Proc.devRef .tc main_v6) : Vec Ideal S1280x3x3 .f32) (ix3 j ⟨q.val / 3, by omega⟩ ⟨q.val % 3, by omega⟩) := by
  after_reads_at

/-- The kept entries are a gather of those rows. -/
theorem long_gathered :
    (after (hostOps0_2 (F := Ideal)) W (Proc.devRef .tc main_v32) : Vec Ideal S1280x6 .f32)
      = Host.gather gather_S1280x9_S6x1_S1280x6_0_1_n_n_1_1_12801
          (after (hostOps0_2 (F := Ideal)) W (Proc.devRef .tc main_v25) : Vec Ideal S1280x9 .f32) (columns (W (Proc.devRef .tc main_c))) := by
  after_reads_simp

/-- The gathered entries. -/
theorem long_entries (hc : (W (Proc.devRef .tc main_c) : Vec Ideal S6 .i32) = fun i => lit0 (S6.rowMajor i)) (j : Fin 1280) (k : Fin 6) :
    (after (hostOps0_2 (F := Ideal)) W (Proc.devRef .tc main_v32) : Vec Ideal S1280x6 .f32) (ix2 j k)
      = (W (Proc.devRef .tc main_v6) : Vec Ideal S1280x3x3 .f32) (ix3 j ⟨(pick k).val / 3, by omega⟩ ⟨(pick k).val % 3, by omega⟩) := by
  refine (congrFun (long_gathered W) _).trans ?_
  rw [hc]
  exact (entries_at _ j k).trans (long_matrix W j (pick k))

/-- The exponent at a point and a gaussian. -/
theorem long_power (i : Fin 10000) (j : Fin 1280) :
    reals (S := S10000x1280) (after (hostOps0_2 (F := Ideal)) W (Proc.devRef .tc main_v102)) (ix2 i j)
      = powRef minusHalf
          (reals (S := S10000x3) (W (Proc.devRef .tc main_v1)) (ix2 i 0) - reals (S := S1280x3) (W (Proc.devRef .tc main_v2)) (ix2 j 0))
          (reals (S := S10000x3) (W (Proc.devRef .tc main_v1)) (ix2 i 1) - reals (S := S1280x3) (W (Proc.devRef .tc main_v2)) (ix2 j 1))
          (reals (S := S10000x3) (W (Proc.devRef .tc main_v1)) (ix2 i 2) - reals (S := S1280x3) (W (Proc.devRef .tc main_v2)) (ix2 j 2))
          (reals (S := S1280x6) (after (hostOps0_2 (F := Ideal)) W (Proc.devRef .tc main_v32)) (ix2 j 0))
          (reals (S := S1280x6) (after (hostOps0_2 (F := Ideal)) W (Proc.devRef .tc main_v32)) (ix2 j 1))
          (reals (S := S1280x6) (after (hostOps0_2 (F := Ideal)) W (Proc.devRef .tc main_v32)) (ix2 j 2))
          (reals (S := S1280x6) (after (hostOps0_2 (F := Ideal)) W (Proc.devRef .tc main_v32)) (ix2 j 3))
          (reals (S := S1280x6) (after (hostOps0_2 (F := Ideal)) W (Proc.devRef .tc main_v32)) (ix2 j 4))
          (reals (S := S1280x6) (after (hostOps0_2 (F := Ideal)) W (Proc.devRef .tc main_v32)) (ix2 j 5)) := by
  unfold powRef minusHalf
  after_reads_at

/-- The mask at a point and a gaussian. -/
theorem long_valid (i : Fin 10000) (j : Fin 1280) :
    (after (hostOps0_2 (F := Ideal)) W (Proc.devRef .tc main_v144) : Vec Ideal S10000x1280 .i1) (ix2 i j)
      = IntOp.andi
          (rangeRef ((W (Proc.devRef .tc main_v11) : Vec Ideal S10000x3 .i32) (ix2 i 0)) ((W (Proc.devRef .tc main_v11) : Vec Ideal S10000x3 .i32) (ix2 i 1))
            ((W (Proc.devRef .tc main_v11) : Vec Ideal S10000x3 .i32) (ix2 i 2)) ((W (Proc.devRef .tc main_v16) : Vec Ideal S1280x3 .i32) (ix2 j 0))
            ((W (Proc.devRef .tc main_v16) : Vec Ideal S1280x3 .i32) (ix2 j 1)) ((W (Proc.devRef .tc main_v16) : Vec Ideal S1280x3 .i32) (ix2 j 2))
            ((W (Proc.devRef .tc main_v24) : Vec Ideal S1280 .i32) (ix1 j)))
          (Ideal.cmp .ole (reals (S := S10000x1280) (after (hostOps0_2 (F := Ideal)) W (Proc.devRef .tc main_v102)) (ix2 i j)) zeroLit) := by
  rw [zeroLit_eq]
  unfold rangeRef
  after_reads_at

/-- The weight at a point and a gaussian. -/
theorem long_weight (i : Fin 10000) (j : Fin 1280) :
    reals (S := S10000x1280) (after (hostOps0_2 (F := Ideal)) W (Proc.devRef .tc main_v150)) (ix2 i j)
      = Ideal.exp (min (reals (S := S10000x1280) (after (hostOps0_2 (F := Ideal)) W (Proc.devRef .tc main_v102)) (ix2 i j)) zeroLit)
          * reals (S := S1280) (W (Proc.devRef .tc main_v3)) (ix1 j) := by
  rw [zeroLit_eq]
  after_reads_at

/-- What is selected outside the mask. -/
theorem long_zero : reals (S := S_) (after (hostOps0_2 (F := Ideal)) W (Proc.devRef .tc main_cst_12)) ix0 = zeroLit := by
  rw [zeroLit_eq]
  after_reads_at

/-! ## The selection -/

/-- The selection at a point and a gaussian. -/
theorem where_at (i : Fin 10000) (j : Fin 1280) :
    reals (S := S10000x1280) (after (hostOps0_3 (F := Ideal)) W (Proc.devRef .tc main_v151)) (ix2 i j)
      = Scalar.select ((W (Proc.devRef .tc main_v144) : Vec Ideal S10000x1280 .i1) (ix2 i j))
          (reals (S := S10000x1280) (W (Proc.devRef .tc main_v150)) (ix2 i j)) (reals (S := S_) (W (Proc.devRef .tc main_cst_12)) ix0) := by
  after_reads_at
  rfl

/-! ## The results and the loop's operands -/

/-- The density: the sum of a row. -/
theorem last_density (i : Fin 10000) :
    reals (S := S10000) (after (hostOps0_4 (F := Ideal)) W (Proc.devRef .tc main_v152)) (ix1 i)
      = ∑ j : Fin 1280, (reals (S := S10000x1280) (W (Proc.devRef .tc main_v151)) (ix2 i j) : EReal) := by
  after_reads_at

/-- The logits: the contraction of a row with a column of the semantics. -/
theorem last_logits (i : Fin 10000) (n : Fin 17) :
    reals (S := S10000x17) (after (hostOps0_4 (F := Ideal)) W (Proc.devRef .tc main_v153)) (ix2 i n)
      = ∑ j : Fin 1280, (reals (S := S10000x1280) (W (Proc.devRef .tc main_v151)) (ix2 i j) : EReal)
          * reals (S := S1280x17) (W (Proc.devRef .tc main_v4)) (ix2 j n) := by
  show (after (hostOps0_4 (F := Ideal)) W (Proc.devRef .tc main_v153) : Vec Ideal S10000x17 .f32) (ix2 i n) = _
  after_reads_at

/-- The loop's matrix: one minus the influence. -/
theorem last_free (i : Fin 10000) (j : Fin 1280) :
    reals (S := S10000x1280) (after (hostOps0_4 (F := Ideal)) W (Proc.devRef .tc main_v157_0)) (ix2 i j)
      = oneLit - reals (S := S10000x1280) (W (Proc.devRef .tc main_v151)) (ix2 i j) := by
  rw [oneLit_eq]
  after_reads_at
  simp only [id, pointwise]

/-- The loop's product starts at one. -/
theorem last_one (i : Fin 10000) :
    reals (S := S10000) (after (hostOps0_4 (F := Ideal)) W (Proc.devRef .tc main_v157_3)) (ix1 i) = (1 : EReal) := by
  show (after (hostOps0_4 (F := Ideal)) W (Proc.devRef .tc main_v157_3) : Vec Ideal S10000 .f32) (ix1 i) = _
  after_reads_at
  exact oneLit_eq

/-- The loop's counter starts at zero. -/
theorem last_counter :
    (after (hostOps0_4 (F := Ideal)) W (Proc.devRef .tc main_v157_2) : Vec Ideal S_ .i32) = fun _ => 0#32 := by
  after_reads_simp
  rfl

end Cert.ReferenceIdeal.Value

end
-- ==== Proof.RefLoop.lean ====
/-
  The reference's three results, element by element: the entry of its loop, the running product the loop keeps, and the
  lines after it.
-/
module

public import proofs.«01_k».proof.Proof.RefPrefix
public import proofs.«01_k».proof.Proof.RefFrame

@[expose] public section

set_option maxRecDepth 16384

noncomputable section

namespace Cert.ReferenceIdeal.Value

open Idealize.ShloMosaic Idealize.ShloMosaic.TcCoe Idealize.SL.Sem
open Idealize.ShloMosaic.StableHlo
open Cert.ReferenceIdeal.Gen Cert.Value

/-! ## One trip of the loop -/

/-- A column cut out of a matrix at a start inside it. -/
theorem slice_column (x : S10000x1280.Idx → EReal) (st : Fin 2 → Int) (k : ℕ) (hk : k < 1280) (h0 : st 0 = 0) (h1 : st 1 = k)
    (i : Fin 10000) :
    shapeCast S10000 (Host.dynamicSlice S10000x1 x st sliceFits_S10000x1280_S10000x1) shapeCasts_S10000x1_S10000 (ix1 i)
      = x (ix2 i ⟨k, hk⟩) := by
  simp only [pointwise]
  refine congrArg x ?_
  have e0 := Host.clampedStart_of_le sliceFits_S10000x1280_S10000x1.1 st 0 0 h0 (by decide)
  have e1 := Host.clampedStart_of_le sliceFits_S10000x1280_S10000x1.1 st 1 k h1 (by show k + 1 ≤ 1280; omega)
  refine congrArg₂ ix2 (Fin.ext ?_) (Fin.ext ?_)
  · show _ + i.val = i.val
    rw [e0, Nat.zero_add]
  · exact e1

/-- The index of a column the counter names. -/
theorem counter_toInt (k : ℕ) (hk : k < 1280) :
    (Scalar.select (IntOp.cmpi .slt (BitVec.ofNat 32 k) 0#32) (IntOp.addi (BitVec.ofNat 32 k) 1280#32) (BitVec.ofNat 32 k)).toInt = k := by
  have ht : (BitVec.ofNat 32 k).toInt = k := by
    rw [BitVec.toInt_eq_toNat_of_lt (by rw [BitVec.toNat_ofNat]; omega), BitVec.toNat_ofNat, Nat.mod_eq_of_lt (by omega)]
  have hs : IntOp.cmpi .slt (BitVec.ofNat 32 k) 0#32 = 0#1 := by
    have hn : (BitVec.ofNat 32 k).slt 0#32 = false := by
      rw [BitVec.slt, ht]; simp
    show BitVec.ofBool ((BitVec.ofNat 32 k).slt 0#32) = 0#1
    rw [hn]; rfl
  rw [hs]
  exact ht

variable (W : Valuation τ sig (Elt Ideal))

/-- One trip multiplies the running product by the column the counter names. -/
theorem trip_product (k : ℕ) (hk : k < 1280)
    (hc : (W (Proc.devRef .tc main_v157_2) : Vec Ideal S_ .i32) = fun _ => BitVec.ofNat 32 k) (i : Fin 10000) :
    (afterL (bodyI (F := Ideal)) W (Proc.devRef .tc main_v157_3) : Vec Ideal S10000 .f32) (ix1 i)
      = reals (S := S10000) (W (Proc.devRef .tc main_v157_3)) (ix1 i)
         * reals (S := S10000x1280) (W (Proc.devRef .tc main_v157_0)) (ix2 i ⟨k, hk⟩) := by
  refine (congrFun (trip_main_v157_3 W) (ix1 i)).trans ?_
  refine congrArg (reals (S := S10000) (W (Proc.devRef .tc main_v157_3)) (ix1 i) * ·) ?_
  refine slice_column (reals (S := S10000x1280) (W (Proc.devRef .tc main_v157_0))) _ k hk rfl ?_ i
  unfold res_main_while0b_v161
  rw [hc]
  exact counter_toInt k hk

/-- One trip adds one to the counter. -/
theorem trip_counter (k : ℕ) (hc : (W (Proc.devRef .tc main_v157_2) : Vec Ideal S_ .i32) = fun _ => BitVec.ofNat 32 k) :
    (afterL (bodyI (F := Ideal)) W (Proc.devRef .tc main_v157_2) : Vec Ideal S_ .i32) = fun _ => BitVec.ofNat 32 (k + 1) := by
  refine (trip_main_v157_2 W).trans ?_
  rw [hc]
  funext y
  show IntOp.addi (BitVec.ofNat 32 k) 1#32 = BitVec.ofNat 32 (k + 1)
  exact (BitVec.ofNat_add ..).symm

/-- The line after the loop. -/
theorem last_bin (i : Fin 10000) :
    (after (hostOps0_5 (F := Ideal)) W (Proc.devRef .tc main_v159) : Vec Ideal S10000 .f32) (ix1 i)
      = oneLit - reals (S := S10000) (W (Proc.devRef .tc main_v157_3)) (ix1 i) := by
  rw [oneLit_eq]
  after_reads_at

variable (m : (ℓ : Loc nD τ sig) → Buf (Elt Ideal) ℓ) (c : Dev nD)

/-- The counter before trip `k`. -/
theorem counter_at (hz : (entryContents preI m c (Proc.devRef .tc main_v157_2) : Vec Ideal S_ .i32) = fun _ => 0#32) :
    ∀ k, (atK m k c (Proc.devRef .tc main_v157_2) : Vec Ideal S_ .i32) = fun _ => BitVec.ofNat 32 k
  | 0 => hz
  | k + 1 => by
    rw [show atK m (k + 1) c = afterL bodyI (after condOps (atK m k c)) from rfl]
    exact trip_counter _ k ((after_of_writes_sub condOps _ condOps_writes (by decide +kernel)).trans (counter_at hz k))

/-- The running product before trip `k`. -/
theorem product_at (hz : (entryContents preI m c (Proc.devRef .tc main_v157_2) : Vec Ideal S_ .i32) = fun _ => 0#32) (i : Fin 10000)
    (B : Fin 1280 → EReal) (hB : ∀ j, reals (S := S10000x1280) (entryContents preI m c (Proc.devRef .tc main_v157_0)) (ix2 i j) = B j)
    (h1 : reals (S := S10000) (entryContents preI m c (Proc.devRef .tc main_v157_3)) (ix1 i) = 1) :
    ∀ k, k ≤ 1280 → reals (S := S10000) (atK m k c (Proc.devRef .tc main_v157_3)) (ix1 i) = runProd (column B) k
  | 0, _ => h1
  | k + 1, hk => by
    have hs : k < 1280 := hk
    rw [show atK m (k + 1) c = afterL bodyI (after condOps (atK m k c)) from rfl]
    refine (trip_product _ k hs ((after_of_writes_sub condOps _ condOps_writes (by decide +kernel)).trans (counter_at m c hz k)) i).trans ?_
    rw [after_of_writes_sub condOps _ condOps_writes (r := main_v157_3) (by decide +kernel),
      after_of_writes_sub condOps _ condOps_writes (r := main_v157_0) (by decide +kernel), product_at hz i B hB h1 k hs.le,
      atK_keep m c main_v157_0 (by decide +kernel) (by decide +kernel) k, hB]
    show _ = runProd (column B) k * column B k
    rw [column, dif_pos hs]

end Cert.ReferenceIdeal.Value

end
-- ==== Proof.RefValue.lean ====
/-
  The reference's run, its three results given element by element as functions of its arguments.
-/
module

public import proofs.«01_k».proof.Proof.RefLoop

@[expose] public section

set_option maxRecDepth 16384

noncomputable section

namespace Cert.ReferenceIdeal.Value

open Idealize.ShloMosaic Idealize.ShloMosaic.TcCoe Idealize.SL.Sem
open Idealize.ShloMosaic.StableHlo
open Cert.ReferenceIdeal.Gen Cert.Value

variable (m : (ℓ : Loc nD τ sig) → Buf (Elt Ideal) ℓ) (ρ : Dev nD → PrngReg) (c : Dev nD)

/-- The points of a memory. -/
abbrev ptsOf : Vec Ideal S1x10000x3 .f32 := m (c.tc.loc main_arg0)
/-- The means of a memory. -/
abbrev meansOf : Vec Ideal S1x1280x3 .f32 := m (c.tc.loc main_arg1)
/-- The opacities of a memory. -/
abbrev opasOf : Vec Ideal S1x1280 .f32 := m (c.tc.loc main_arg2)
/-- The semantics of a memory. -/
abbrev semOf : Vec Ideal S1x1280x17 .f32 := m (c.tc.loc main_arg3)
/-- The scales of a memory. -/
abbrev scalesOf : Vec Ideal S1x1280x3 .f32 := m (c.tc.loc main_arg4)
/-- The covariances of a memory. -/
abbrev covOf : Vec Ideal S1x1280x3x3 .f32 := m (c.tc.loc main_arg5)

/-! ## The contents after each stretch -/

/-- After the first stretch. -/
def U0 : Valuation τ sig (Elt Ideal) := after hostOps0 (launchContents m c)
/-- After the clamp. -/
def U1 : Valuation τ sig (Elt Ideal) := after hostOps0_1 (U0 m c)
/-- After the long stretch. -/
def U2 : Valuation τ sig (Elt Ideal) := after hostOps0_2 (U1 m c)
/-- After the selection. -/
def U3 : Valuation τ sig (Elt Ideal) := after hostOps0_3 (U2 m c)

/-- The contents at the loop's entry. -/
theorem entry_eq : entryContents preI m c = after hostOps0_4 (U3 m c) := rfl

/-- The clamp keeps a buffer it does not write. -/
theorem U1_keep (r : Ref sig .tc) (h : r ∉ hostOps0_1_W) : U1 m c (Proc.devRef .tc r) = U0 m c (Proc.devRef .tc r) :=
  after_of_writes_sub hostOps0_1 _ hostOps0_1_writes h

/-- The long stretch keeps a buffer it does not write. -/
theorem U2_keep (r : Ref sig .tc) (h : r ∉ hostOps0_2_W) : U2 m c (Proc.devRef .tc r) = U1 m c (Proc.devRef .tc r) :=
  after_of_writes_sub hostOps0_2 _ hostOps0_2_writes h

/-- The selection keeps a buffer it does not write. -/
theorem U3_keep (r : Ref sig .tc) (h : r ∉ hostOps0_3_W) : U3 m c (Proc.devRef .tc r) = U2 m c (Proc.devRef .tc r) :=
  after_of_writes_sub hostOps0_3 _ hostOps0_3_writes h

/-! ## What the long stretch reads -/

/-- The points there. -/
theorem U1_points (i : Fin 10000) (k : Fin 3) :
    (U1 m c (Proc.devRef .tc main_v1) : Vec Ideal S10000x3 .f32) (ix2 i k) = ptsOf m c (ix3 0 i k) := by
  rw [U1_keep m c main_v1 (by decide +kernel)]
  exact head_points _ i k

/-- The means there. -/
theorem U1_means (j : Fin 1280) (k : Fin 3) :
    (U1 m c (Proc.devRef .tc main_v2) : Vec Ideal S1280x3 .f32) (ix2 j k) = meansOf m c (ix3 0 j k) := by
  rw [U1_keep m c main_v2 (by decide +kernel)]
  exact head_means _ j k

/-- The opacities there. -/
theorem U1_opas (j : Fin 1280) :
    (U1 m c (Proc.devRef .tc main_v3) : Vec Ideal S1280 .f32) (ix1 j) = opasOf m c (ix2 0 j) := by
  rw [U1_keep m c main_v3 (by decide +kernel)]
  exact head_opas _ j

/-- The covariances there. -/
theorem U1_cov (j : Fin 1280) (a b : Fin 3) :
    (U1 m c (Proc.devRef .tc main_v6) : Vec Ideal S1280x3x3 .f32) (ix3 j a b) = covOf m c (ix4 0 j a b) := by
  rw [U1_keep m c main_v6 (by decide +kernel)]
  exact head_cov _ j a b

/-- The kept columns' numbers there. -/
theorem U1_columns : (U1 m c (Proc.devRef .tc main_c) : Vec Ideal S6 .i32) = fun i => lit0 (S6.rowMajor i) := by
  rw [U1_keep m c main_c (by decide +kernel)]
  exact head_columns _

/-- A point's grid cell there. -/
theorem U1_point_cell (i : Fin 10000) (k : Fin 3) :
    (U1 m c (Proc.devRef .tc main_v11) : Vec Ideal S10000x3 .i32) (ix2 i k) = cell (ptsOf m c (ix3 0 i k)) := by
  rw [U1_keep m c main_v11 (by decide +kernel)]
  exact head_point_cell _ i k

/-- A mean's grid cell there. -/
theorem U1_mean_cell (j : Fin 1280) (k : Fin 3) :
    (U1 m c (Proc.devRef .tc main_v16) : Vec Ideal S1280x3 .i32) (ix2 j k) = cell (meansOf m c (ix3 0 j k)) := by
  rw [U1_keep m c main_v16 (by decide +kernel)]
  exact head_mean_cell _ j k

/-- The radius of a gaussian, clamped. -/
theorem U1_radius (j : Fin 1280) :
    (U1 m c (Proc.devRef .tc main_v24) : Vec Ideal S1280 .i32) (ix1 j) = radius (largest (scalesOf m c) j) := by
  refine (clip_at (U0 m c) j).trans ?_
  unfold radius
  refine congrArg₂ IntOp.minsi (head_high _) (congrArg₂ IntOp.maxsi (head_low _) (head_radius _ j))

/-- The kept covariance entries. -/
theorem U2_entries (j : Fin 1280) (k : Fin 6) :
    (U2 m c (Proc.devRef .tc main_v32) : Vec Ideal S1280x6 .f32) (ix2 j k)
      = covOf m c (ix4 0 j ⟨(pick k).val / 3, by omega⟩ ⟨(pick k).val % 3, by omega⟩) :=
  (long_entries (U1 m c) (U1_columns m c) j k).trans (U1_cov m c j _ _)

/-- The exponent. -/
theorem U2_power (i : Fin 10000) (j : Fin 1280) :
    reals (S := S10000x1280) (U2 m c (Proc.devRef .tc main_v102)) (ix2 i j)
      = powRef minusHalf (ptsOf m c (ix3 0 i 0) - meansOf m c (ix3 0 j 0)) (ptsOf m c (ix3 0 i 1) - meansOf m c (ix3 0 j 1))
          (ptsOf m c (ix3 0 i 2) - meansOf m c (ix3 0 j 2)) (covOf m c (ix4 0 j 0 0)) (covOf m c (ix4 0 j 1 1))
          (covOf m c (ix4 0 j 2 2)) (covOf m c (ix4 0 j 0 1)) (covOf m c (ix4 0 j 1 2)) (covOf m c (ix4 0 j 0 2)) := by
  refine (long_power (U1 m c) i j).trans ?_
  have hp : ∀ k, reals (S := S10000x3) (U1 m c (Proc.devRef .tc main_v1)) (ix2 i k) = ptsOf m c (ix3 0 i k) := U1_points m c i
  have hm : ∀ k, reals (S := S1280x3) (U1 m c (Proc.devRef .tc main_v2)) (ix2 j k) = meansOf m c (ix3 0 j k) := U1_means m c j
  have he : ∀ k, reals (S := S1280x6) (after hostOps0_2 (U1 m c) (Proc.devRef .tc main_v32)) (ix2 j k)
      = covOf m c (ix4 0 j ⟨(pick k).val / 3, by omega⟩ ⟨(pick k).val % 3, by omega⟩) := U2_entries m c j
  rw [hp, hp, hp, hm, hm, hm, he, he, he, he, he, he]
  rfl

/-- The mask. -/
theorem U2_valid (i : Fin 10000) (j : Fin 1280) :
    (U2 m c (Proc.devRef .tc main_v144) : Vec Ideal S10000x1280 .i1) (ix2 i j)
      = IntOp.andi
          (rangeRef (cell (ptsOf m c (ix3 0 i 0))) (cell (ptsOf m c (ix3 0 i 1))) (cell (ptsOf m c (ix3 0 i 2)))
            (cell (meansOf m c (ix3 0 j 0))) (cell (meansOf m c (ix3 0 j 1))) (cell (meansOf m c (ix3 0 j 2)))
            (radius (largest (scalesOf m c) j)))
          (Ideal.cmp .ole (reals (S := S10000x1280) (U2 m c (Proc.devRef .tc main_v102)) (ix2 i j)) zeroLit) := by
  refine (long_valid (U1 m c) i j).trans ?_
  rw [U1_point_cell, U1_point_cell, U1_point_cell, U1_mean_cell, U1_mean_cell, U1_mean_cell, U1_radius]
  rfl

/-- The influence the reference selects is the plain one. -/
theorem influence_at (i : Fin 10000) (j : Fin 1280) :
    reals (S := S10000x1280) (U3 m c (Proc.devRef .tc main_v151)) (ix2 i j)
      = plainInfluence (ptsOf m c) (meansOf m c) (opasOf m c) (scalesOf m c) (covOf m c) i j := by
  refine (where_at (U2 m c) i j).trans ?_
  have hw : reals (S := S10000x1280) (U2 m c (Proc.devRef .tc main_v150)) (ix2 i j)
      = Ideal.exp (min (reals (S := S10000x1280) (U2 m c (Proc.devRef .tc main_v102)) (ix2 i j)) zeroLit) * opasOf m c (ix2 0 j) :=
    (long_weight (U1 m c) i j).trans (congrArg (_ * ·) (U1_opas m c j))
  have hz : reals (S := S_) (U2 m c (Proc.devRef .tc main_cst_12)) ix0 = zeroLit := long_zero (U1 m c)
  rw [hw, hz, U2_valid, U2_power]
  rfl

/-! ## The results -/

/-- The semantics the contraction reads. -/
theorem U3_sem (j : Fin 1280) (n : Fin 17) :
    reals (S := S1280x17) (U3 m c (Proc.devRef .tc main_v4)) (ix2 j n) = semOf m c (ix3 0 j n) := by
  rw [U3_keep m c main_v4 (by decide +kernel), U2_keep m c main_v4 (by decide +kernel), U1_keep m c main_v4 (by decide +kernel)]
  exact head_sem _ j n

/-- The density at the run's end. -/
theorem density_at (i : Fin 10000) :
    (finalContents condOps preI bodyI postI 1280 m c (Proc.devRef .tc main_v152) : Vec Ideal S10000 .f32) (ix1 i)
      = densityAt (ptsOf m c) (meansOf m c) (opasOf m c) (scalesOf m c) (covOf m c) i := by
  rw [final_keep m c main_v152 (by decide +kernel) (by decide +kernel) (by decide +kernel), entry_eq]
  refine (last_density (U3 m c) i).trans ?_
  unfold densityAt
  exact Finset.sum_congr rfl fun j _ => influence_at m c i j

/-- The logits at the run's end. -/
theorem logits_at (i : Fin 10000) (n : Fin 17) :
    (finalContents condOps preI bodyI postI 1280 m c (Proc.devRef .tc main_v153) : Vec Ideal S10000x17 .f32) (ix2 i n)
      = logitAt (ptsOf m c) (meansOf m c) (opasOf m c) (semOf m c) (scalesOf m c) (covOf m c) i n := by
  rw [final_keep m c main_v153 (by decide +kernel) (by decide +kernel) (by decide +kernel), entry_eq]
  refine (last_logits (U3 m c) i n).trans ?_
  unfold logitAt
  exact Finset.sum_congr rfl fun j _ => congrArg₂ (· * ·) (influence_at m c i j) (U3_sem m c j n)

/-- The occupancy at the run's end. -/
theorem bin_at (i : Fin 10000) :
    (finalContents condOps preI bodyI postI 1280 m c (Proc.devRef .tc main_v159) : Vec Ideal S10000 .f32) (ix1 i)
      = binAt (ptsOf m c) (meansOf m c) (opasOf m c) (scalesOf m c) (covOf m c) i := by
  refine (last_bin _ i).trans ?_
  unfold binAt
  refine congrArg (oneLit - ·) ?_
  rw [after_of_writes_sub condOps _ condOps_writes (r := main_v157_3) (by decide +kernel)]
  refine product_at m c (last_counter (U3 m c)) i
    (fun j => oneLit - plainInfluence (ptsOf m c) (meansOf m c) (opasOf m c) (scalesOf m c) (covOf m c) i j) (fun j => ?_)
    (last_one (U3 m c) i) 1280 le_rfl
  exact (last_free (U3 m c) i j).trans (congrArg (oneLit - ·) (influence_at m c i j))

/-- The reference's run: the logits, the occupancy and the density at every index, the arguments as they were. -/
theorem run_values : θ_run defs (onTc (τ := τ) (main (F := Ideal))) ⟨m, fun _ => 0, ρ⟩ (fun r => ∀ c : Dev nD,
      r.2.mem ((c.tc : Thread nD τ).loc main_v153)
          = (fun y => logitAt (ptsOf m c) (meansOf m c) (opasOf m c) (semOf m c) (scalesOf m c) (covOf m c) (y 0) (y 1) : Vec Ideal S10000x17 .f32)
      ∧ r.2.mem ((c.tc : Thread nD τ).loc main_v159)
          = (fun y => binAt (ptsOf m c) (meansOf m c) (opasOf m c) (scalesOf m c) (covOf m c) (y 0) : Vec Ideal S10000 .f32)
      ∧ r.2.mem ((c.tc : Thread nD τ).loc main_v152)
          = (fun y => densityAt (ptsOf m c) (meansOf m c) (opasOf m c) (scalesOf m c) (covOf m c) (y 0) : Vec Ideal S10000 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r hr c => ⟨?_, ?_, ?_, args_kept m c r.2 hr.1⟩) (run_refs m ρ)
  · refine (hr.1 c main_v153 (by decide)).trans (funext fun y => ?_)
    refine (congrArg _ (ix2_eta (n0 := 10000) (n1 := 17) y)).symm.trans ?_
    exact logits_at m c (y 0) (y 1)
  · refine (hr.1 c main_v159 (by decide)).trans (funext fun y => ?_)
    refine (congrArg _ (ix1_eta (n0 := 10000) y)).symm.trans ?_
    exact bin_at m c (y 0)
  · refine (hr.1 c main_v152 (by decide)).trans (funext fun y => ?_)
    refine (congrArg _ (ix1_eta (n0 := 10000) y)).symm.trans ?_
    exact density_at m c (y 0)

end Cert.ReferenceIdeal.Value

end
-- ==== Proof.Equation.lean ====
/-
  The kernel and the reference end with the same three results where the points and the means lie in the unit cube and the
  opacities are at most one.
-/
module

public import proofs.«01_k».proof.Defs
public import proofs.«01_k».proof.Proof.Gen.Pre_in_unit_cube
public import proofs.«01_k».proof.Proof.KernelValue
public import proofs.«01_k».proof.Proof.RefValue

@[expose] public section

set_option maxRecDepth 16384

noncomputable section

namespace Cert.Equation

open Idealize.ShloMosaic Idealize.ShloMosaic.TcCoe Idealize.SL.Sem
open Cert.Value

/-- A conjunction of two truth values that holds. -/
theorem andi_one {a b : BitVec 1} (h : IntOp.andi a b = 1#1) : a = 1#1 ∧ b = 1#1 := by
  revert a b; decide

/-- A comparison that holds. -/
theorem le_of_cmp {x y : EReal} (h : Ideal.cmp .ole x y = 1#1) : x ≤ y := by
  by_contra hn
  have : Ideal.cmp .ole x y = 0#1 := by
    show BitVec.ofBool (decide (x ≤ y)) = 0#1
    rw [decide_eq_false hn]; rfl
  rw [this] at h; exact absurd h (by decide)

/-- A comparison the other way that holds. -/
theorem ge_of_cmp {x y : EReal} (h : Ideal.cmp .oge x y = 1#1) : y ≤ x := by
  by_contra hn
  have : Ideal.cmp .oge x y = 0#1 := by
    show BitVec.ofBool (decide (y ≤ x)) = 0#1
    rw [decide_eq_false hn]; rfl
  rw [this] at h; exact absurd h (by decide)

/-- The precondition, element by element. -/
theorem inCube_of_pre (m : (ℓ : Loc Cert.KernelIdeal.nD Cert.KernelIdeal.τ Cert.KernelIdeal.sig) → Buf (Elt Ideal) ℓ)
    (h : Cert.Pre_KernelIdeal_in_unit_cube (hPre_in_unit_cube := Cert.Pre_in_unit_cube.Gen.facts) m) (c : Dev Cert.KernelIdeal.nD) :
    Cert.KernelIdeal.Value.InCube m c := by
  obtain ⟨hp, hm, ho⟩ := h c
  refine ⟨fun i k => ?_, fun j k => ?_, fun j => ?_⟩
  · have e := andi_one (congrFun hp (ix3 0 i k))
    exact ⟨zeroLit_eq.ge.trans (ge_of_cmp e.1), (le_of_cmp e.2).trans oneLit_eq.le⟩
  · have e := andi_one (congrFun hm (ix3 0 j k))
    exact ⟨zeroLit_eq.ge.trans (ge_of_cmp e.1), (le_of_cmp e.2).trans oneLit_eq.le⟩
  · exact (le_of_cmp (congrFun ho (ix2 0 j))).trans oneLit_eq.le

/-- The kernel's results are the reference's. -/
theorem algebraic : Cert.algebraic_KernelIdeal_ReferenceIdeal_pre_in_unit_cube (hKernelIdeal := Cert.KernelIdeal.Gen.facts)
    (hReferenceIdeal := Cert.ReferenceIdeal.Gen.facts) (hPre_in_unit_cube := Cert.Pre_in_unit_cube.Gen.facts) := by
  intro m g m' g' hpre hargs
  refine ⟨_, _, _, Cert.KernelIdeal.Value.run_values m g (inCube_of_pre m hpre), ?_⟩
  refine (θ_run _ _ _).mono (fun r hr c => ?_) (Cert.ReferenceIdeal.Value.run_values m' g')
  obtain ⟨h0, h1, h2, h3, h4, h5⟩ := hargs c
  obtain ⟨r0, r1, r2, rest⟩ := hr c
  have e0 : Cert.ReferenceIdeal.Value.ptsOf m' c = Cert.KernelIdeal.Value.ptsOf m c := h0
  have e1 : Cert.ReferenceIdeal.Value.meansOf m' c = Cert.KernelIdeal.Value.meansOf m c := h1
  have e2 : Cert.ReferenceIdeal.Value.opasOf m' c = Cert.KernelIdeal.Value.opasOf m c := h2
  have e3 : Cert.ReferenceIdeal.Value.semOf m' c = Cert.KernelIdeal.Value.semOf m c := h3
  have e4 : Cert.ReferenceIdeal.Value.scalesOf m' c = Cert.KernelIdeal.Value.scalesOf m c := h4
  have e5 : Cert.ReferenceIdeal.Value.covOf m' c = Cert.KernelIdeal.Value.covOf m c := h5
  rw [e0, e1, e2, e3, e4, e5] at r0
  rw [e0, e1, e2, e4, e5] at r1
  rw [e0, e1, e2, e4, e5] at r2
  exact ⟨r0, r1, r2, rest⟩

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_unit_cube
public import proofs.«01_k».proof.Proof.RefFrame
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_in_unit_cube.Gen.facts, fun m g _ => Cert.Kernel.Gen.frame m g, fun m g _ => Cert.KernelIdeal.Gen.frame m g,
  fun m g _ => Cert.KernelIdeal.Gen.frame m g, fun m g _ => Cert.ReferenceIdeal.Value.frame m g,
  fun m g _ => Cert.ReferenceIdeal.Value.frame m g, trivial, Cert.Equation.algebraic⟩

end Cert.Proof

end
